-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S4x7168x2x128 Cert.KernelIdeal.S4x7168x1x128
  ∧ IdealRules.bf16_pair.Statement Cert.KernelIdeal.S32x128 Cert.KernelIdeal.S16x128
  ∧ IdealRules.bf16_pair.Statement Cert.KernelIdeal.S1x16x2x128 Cert.KernelIdeal.S1x16x1x128
  ∧ IdealRules.bf16_pair.Statement Cert.KernelIdeal.S1x128x2x128 Cert.KernelIdeal.S1x128x1x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x768x14336 : Shape := ⟨3, ![9, 768, 14336]⟩
abbrev S4096x1792x2 : Shape := ⟨3, ![4096, 1792, 2]⟩
abbrev S2x256x8 : Shape := ⟨3, ![2, 256, 8]⟩
abbrev S4096 : Shape := ⟨1, ![4096]⟩
abbrev S2x1792x4096 : Shape := ⟨3, ![2, 1792, 4096]⟩
abbrev S2x256x2x2x2 : Shape := ⟨5, ![2, 256, 2, 2, 2]⟩
abbrev S2x2x256x2x2 : Shape := ⟨5, ![2, 2, 256, 2, 2]⟩
abbrev S2x2x256x4 : Shape := ⟨4, ![2, 2, 256, 4]⟩
abbrev S2x2x256 : Shape := ⟨3, ![2, 2, 256]⟩
abbrev S8x128 : Shape := ⟨2, ![8, 128]⟩
abbrev S6912x14336 : Shape := ⟨2, ![6912, 14336]⟩
abbrev S1x4096 : Shape := ⟨2, ![1, 4096]⟩
abbrev S6912x4096 : Shape := ⟨2, ![6912, 4096]⟩
abbrev S2x1792x512 : Shape := ⟨3, ![2, 1792, 512]⟩
abbrev S256x14336 : Shape := ⟨2, ![256, 14336]⟩
abbrev S1x512 : Shape := ⟨2, ![1, 512]⟩
abbrev S256x512 : Shape := ⟨2, ![256, 512]⟩
abbrev S4x7168x128 : Shape := ⟨3, ![4, 7168, 128]⟩
abbrev S1x128 : Shape := ⟨2, ![1, 128]⟩
abbrev S1x32x128 : Shape := ⟨3, ![1, 32, 128]⟩
abbrev S32x128 : Shape := ⟨2, ![32, 128]⟩
abbrev S8x128x1 : Shape := ⟨3, ![8, 128, 1]⟩
abbrev S16x128 : Shape := ⟨2, ![16, 128]⟩
abbrev S1x16x128 : Shape := ⟨3, ![1, 16, 128]⟩
abbrev S256x256 : Shape := ⟨2, ![256, 256]⟩
abbrev S1x128x128 : Shape := ⟨3, ![1, 128, 128]⟩
abbrev S128x128 : Shape := ⟨2, ![128, 128]⟩
abbrev S256x128 : Shape := ⟨2, ![256, 128]⟩
abbrev S1x256 : Shape := ⟨2, ![1, 256]⟩
abbrev S9x768x4096 : Shape := ⟨3, ![9, 768, 4096]⟩

abbrev nBuf : Space → Nat
  | .hbm => 14
  | .vmem => 10
  | .smem => 0
  | _ => 0

abbrev bufTy : (tb : Table) → Fin (tcTables nBuf tb) → BufTy
  | .hbm, ⟨0, _⟩ => ⟨S9x768x14336, .bf16⟩
  | .hbm, ⟨1, _⟩ => ⟨S4096x1792x2, .i8⟩
  | .hbm, ⟨2, _⟩ => ⟨S2x256x8, .i8⟩
  | .hbm, ⟨3, _⟩ => ⟨S4096, .f32⟩
  | .hbm, ⟨4, _⟩ => ⟨S2x1792x4096, .i8⟩
  | .hbm, ⟨5, _⟩ => ⟨S2x256x2x2x2, .i8⟩
  | .hbm, ⟨6, _⟩ => ⟨S2x2x256x2x2, .i8⟩
  | .hbm, ⟨7, _⟩ => ⟨S2x2x256x4, .i8⟩
  | .hbm, ⟨8, _⟩ => ⟨S2x2x256, .i32⟩
  | .hbm, ⟨9, _⟩ => ⟨S8x128, .i32⟩
  | .hbm, ⟨10, _⟩ => ⟨S6912x14336, .bf16⟩
  | .hbm, ⟨11, _⟩ => ⟨S1x4096, .f32⟩
  | .hbm, ⟨12, _⟩ => ⟨S6912x4096, .bf16⟩
  | .hbm, ⟨13, _⟩ => ⟨S9x768x4096, .bf16⟩
  | .local _ .vmem, ⟨0, _⟩ => ⟨S2x1792x512, .i8⟩
  | .local _ .vmem, ⟨1, _⟩ => ⟨S2x1792x512, .i8⟩
  | .local _ .vmem, ⟨2, _⟩ => ⟨S8x128, .i32⟩
  | .local _ .vmem, ⟨3, _⟩ => ⟨S256x14336, .bf16⟩
  | .local _ .vmem, ⟨4, _⟩ => ⟨S256x14336, .bf16⟩
  | .local _ .vmem, ⟨5, _⟩ => ⟨S1x512, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S4x7168x128, .i32⟩
  | _, _ => ⟨S9x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![8, 27], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_943 : BitVec 32 := 0#32
  let c56_i32 : BitVec 32 := 56#32
  let v1281 : BitVec 32 := Scalar.addi c0_i32_943 c56_i32
  let c1_i32 : BitVec 32 := 1#32
  ⟨c0_i32_943, v1281, c1_i32⟩
def k0_mult1 (k0_t1 : Fin k0_t1_loop.trips) : BitVec 32 :=
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  v1282
def k0_mult2 (k0_t1 : Fin k0_t1_loop.trips) : BitVec 32 :=
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  v1284
def k0_off1 (k0_t1 : Fin k0_t1_loop.trips) : Fin 3 → Nat :=
  let c0_945 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1286 : Index := Scalar.indexCast v1283
  let c0_946 : Index := 0#32
  ![0, v1286.toNat, 0]
def k0_off2 (k0_t1 : Fin k0_t1_loop.trips) : Fin 3 → Nat :=
  let c1_947 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1290 : Index := Scalar.indexCast v1283
  let c0_948 : Index := 0#32
  ![1, v1290.toNat, 0]
def k0_off3 (k0_t1 : Fin k0_t1_loop.trips) (c0_i32_968 : BitVec 32) (c0_i32_969 : BitVec 32) : Fin 3 → Nat :=
  let c0_970 : Index := 0#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v1378 : BitVec 32 := Scalar.addi v1285 c0_i32_968
  let v1379 : BitVec 32 := Scalar.addi v1378 c0_i32_969
  let v1380 : Index := Scalar.indexCast v1379
  let c0_971 : Index := 0#32
  ![0, v1380.toNat, 0]
def k0_off4 (k0_t1 : Fin k0_t1_loop.trips) : Fin 3 → Nat :=
  let c0_1058 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1702 : Index := Scalar.indexCast v1283
  let c128_1059 : Index := 128#32
  ![0, v1702.toNat, 128]
def k0_off5 (k0_t1 : Fin k0_t1_loop.trips) : Fin 3 → Nat :=
  let c1_1060 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1706 : Index := Scalar.indexCast v1283
  let c128_1061 : Index := 128#32
  ![1, v1706.toNat, 128]
def k0_off6 (k0_t1 : Fin k0_t1_loop.trips) (c0_i32_1082 : BitVec 32) (c0_i32_1083 : BitVec 32) : Fin 3 → Nat :=
  let c1_1084 : Index := 1#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v1794 : BitVec 32 := Scalar.addi v1285 c0_i32_1082
  let v1795 : BitVec 32 := Scalar.addi v1794 c0_i32_1083
  let v1796 : Index := Scalar.indexCast v1795
  let c0_1085 : Index := 0#32
  ![1, v1796.toNat, 0]
def k0_off7 (k0_t1 : Fin k0_t1_loop.trips) : Fin 3 → Nat :=
  let c0_1174 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2118 : Index := Scalar.indexCast v1283
  let c256_1175 : Index := 256#32
  ![0, v2118.toNat, 256]
def k0_off8 (k0_t1 : Fin k0_t1_loop.trips) : Fin 3 → Nat :=
  let c1_1176 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2122 : Index := Scalar.indexCast v1283
  let c256_1177 : Index := 256#32
  ![1, v2122.toNat, 256]
def k0_off9 (k0_t1 : Fin k0_t1_loop.trips) (c0_i32_1198 : BitVec 32) (c0_i32_1199 : BitVec 32) : Fin 3 → Nat :=
  let c2_1200 : Index := 2#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v2210 : BitVec 32 := Scalar.addi v1285 c0_i32_1198
  let v2211 : BitVec 32 := Scalar.addi v2210 c0_i32_1199
  let v2212 : Index := Scalar.indexCast v2211
  let c0_1201 : Index := 0#32
  ![2, v2212.toNat, 0]
def k0_off10 (k0_t1 : Fin k0_t1_loop.trips) : Fin 3 → Nat :=
  let c0_1290 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2534 : Index := Scalar.indexCast v1283
  let c384_1291 : Index := 384#32
  ![0, v2534.toNat, 384]
def k0_off11 (k0_t1 : Fin k0_t1_loop.trips) : Fin 3 → Nat :=
  let c1_1292 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2538 : Index := Scalar.indexCast v1283
  let c384_1293 : Index := 384#32
  ![1, v2538.toNat, 384]
def k0_off12 (k0_t1 : Fin k0_t1_loop.trips) (c0_i32_1314 : BitVec 32) (c0_i32_1315 : BitVec 32) : Fin 3 → Nat :=
  let c3_1316 : Index := 3#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v2626 : BitVec 32 := Scalar.addi v1285 c0_i32_1314
  let v2627 : BitVec 32 := Scalar.addi v2626 c0_i32_1315
  let v2628 : Index := Scalar.indexCast v2627
  let c0_1317 : Index := 0#32
  ![3, v2628.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1792x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S9x768x14336 : Shape := ⟨3, ![9, 768, 14336]⟩
abbrev S4096x1792x2 : Shape := ⟨3, ![4096, 1792, 2]⟩
abbrev S2x256x8 : Shape := ⟨3, ![2, 256, 8]⟩
abbrev S4096 : Shape := ⟨1, ![4096]⟩
abbrev S2x1792x4096 : Shape := ⟨3, ![2, 1792, 4096]⟩
abbrev S2x256x2x2x2 : Shape := ⟨5, ![2, 256, 2, 2, 2]⟩
abbrev S2x2x256x2x2 : Shape := ⟨5, ![2, 2, 256, 2, 2]⟩
abbrev S2x2x256x4 : Shape := ⟨4, ![2, 2, 256, 4]⟩
abbrev S2x2x256 : Shape := ⟨3, ![2, 2, 256]⟩
abbrev S8x128 : Shape := ⟨2, ![8, 128]⟩
abbrev S6912x14336 : Shape := ⟨2, ![6912, 14336]⟩
abbrev S1x4096 : Shape := ⟨2, ![1, 4096]⟩
abbrev S6912x4096 : Shape := ⟨2, ![6912, 4096]⟩
abbrev S2x1792x512 : Shape := ⟨3, ![2, 1792, 512]⟩
abbrev S256x14336 : Shape := ⟨2, ![256, 14336]⟩
abbrev S1x512 : Shape := ⟨2, ![1, 512]⟩
abbrev S256x512 : Shape := ⟨2, ![256, 512]⟩
abbrev S4x7168x128 : Shape := ⟨3, ![4, 7168, 128]⟩
abbrev S4x7168x2x128 : Shape := ⟨4, ![4, 7168, 2, 128]⟩
abbrev S4x7168x1x128 : Shape := ⟨4, ![4, 7168, 1, 128]⟩
abbrev S1x128 : Shape := ⟨2, ![1, 128]⟩
abbrev S1x32x128 : Shape := ⟨3, ![1, 32, 128]⟩
abbrev S32x128 : Shape := ⟨2, ![32, 128]⟩
abbrev S8x128x1 : Shape := ⟨3, ![8, 128, 1]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S256x256 : Shape := ⟨2, ![256, 256]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S128x128 : Shape := ⟨2, ![128, 128]⟩
abbrev S256x128 : Shape := ⟨2, ![256, 128]⟩
abbrev S1x256 : Shape := ⟨2, ![1, 256]⟩
abbrev S9x768x4096 : Shape := ⟨3, ![9, 768, 4096]⟩

abbrev nBuf : Space → Nat
  | .hbm => 14
  | .vmem => 10
  | .smem => 0
  | _ => 0

abbrev bufTy : (tb : Table) → Fin (tcTables nBuf tb) → BufTy
  | .hbm, ⟨0, _⟩ => ⟨S9x768x14336, .bf16⟩
  | .hbm, ⟨1, _⟩ => ⟨S4096x1792x2, .i8⟩
  | .hbm, ⟨2, _⟩ => ⟨S2x256x8, .i8⟩
  | .hbm, ⟨3, _⟩ => ⟨S4096, .f32⟩
  | .hbm, ⟨4, _⟩ => ⟨S2x1792x4096, .i8⟩
  | .hbm, ⟨5, _⟩ => ⟨S2x256x2x2x2, .i8⟩
  | .hbm, ⟨6, _⟩ => ⟨S2x2x256x2x2, .i8⟩
  | .hbm, ⟨7, _⟩ => ⟨S2x2x256x4, .i8⟩
  | .hbm, ⟨8, _⟩ => ⟨S2x2x256, .i32⟩
  | .hbm, ⟨9, _⟩ => ⟨S8x128, .i32⟩
  | .hbm, ⟨10, _⟩ => ⟨S6912x14336, .bf16⟩
  | .hbm, ⟨11, _⟩ => ⟨S1x4096, .f32⟩
  | .hbm, ⟨12, _⟩ => ⟨S6912x4096, .bf16⟩
  | .hbm, ⟨13, _⟩ => ⟨S9x768x4096, .bf16⟩
  | .local _ .vmem, ⟨0, _⟩ => ⟨S2x1792x512, .i8⟩
  | .local _ .vmem, ⟨1, _⟩ => ⟨S2x1792x512, .i8⟩
  | .local _ .vmem, ⟨2, _⟩ => ⟨S8x128, .i32⟩
  | .local _ .vmem, ⟨3, _⟩ => ⟨S256x14336, .bf16⟩
  | .local _ .vmem, ⟨4, _⟩ => ⟨S256x14336, .bf16⟩
  | .local _ .vmem, ⟨5, _⟩ => ⟨S1x512, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S4x7168x2x128, .bf16⟩
  | _, _ => ⟨S9x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 27], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_943 : BitVec 32 := 0#32
  let c56_i32 : BitVec 32 := 56#32
  let v1281 : BitVec 32 := Scalar.addi c0_i32_943 c56_i32
  let c1_i32 : BitVec 32 := 1#32
  ⟨c0_i32_943, v1281, c1_i32⟩
def k0_mult1 (k0_t1 : Fin k0_t1_loop.trips) : BitVec 32 :=
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  v1282
def k0_mult2 (k0_t1 : Fin k0_t1_loop.trips) : BitVec 32 :=
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  v1284
def k0_off1 (k0_t1 : Fin k0_t1_loop.trips) : Fin 3 → Nat :=
  let c0_945 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1286 : Index := Scalar.indexCast v1283
  let c0_946 : Index := 0#32
  ![0, v1286.toNat, 0]
def k0_off2 (k0_t1 : Fin k0_t1_loop.trips) : Fin 3 → Nat :=
  let c1_947 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1290 : Index := Scalar.indexCast v1283
  let c0_948 : Index := 0#32
  ![1, v1290.toNat, 0]
def k0_off3 (k0_t1 : Fin k0_t1_loop.trips) (c0_i32_968 : BitVec 32) (c0_i32_969 : BitVec 32) : Fin 4 → Nat :=
  let c0_970 : Index := 0#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v1378 : BitVec 32 := Scalar.addi v1285 c0_i32_968
  let v1379 : BitVec 32 := Scalar.addi v1378 c0_i32_969
  let v1380 : Index := Scalar.indexCast v1379
  let c0_971 : Index := 0#32
  ![0, v1380.toNat, 0, 0]
def k0_off4 (k0_t1 : Fin k0_t1_loop.trips) : Fin 3 → Nat :=
  let c0_1058 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1702 : Index := Scalar.indexCast v1283
  let c128_1059 : Index := 128#32
  ![0, v1702.toNat, 128]
def k0_off5 (k0_t1 : Fin k0_t1_loop.trips) : Fin 3 → Nat :=
  let c1_1060 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v1706 : Index := Scalar.indexCast v1283
  let c128_1061 : Index := 128#32
  ![1, v1706.toNat, 128]
def k0_off6 (k0_t1 : Fin k0_t1_loop.trips) (c0_i32_1082 : BitVec 32) (c0_i32_1083 : BitVec 32) : Fin 4 → Nat :=
  let c1_1084 : Index := 1#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v1794 : BitVec 32 := Scalar.addi v1285 c0_i32_1082
  let v1795 : BitVec 32 := Scalar.addi v1794 c0_i32_1083
  let v1796 : Index := Scalar.indexCast v1795
  let c0_1085 : Index := 0#32
  ![1, v1796.toNat, 0, 0]
def k0_off7 (k0_t1 : Fin k0_t1_loop.trips) : Fin 3 → Nat :=
  let c0_1174 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2118 : Index := Scalar.indexCast v1283
  let c256_1175 : Index := 256#32
  ![0, v2118.toNat, 256]
def k0_off8 (k0_t1 : Fin k0_t1_loop.trips) : Fin 3 → Nat :=
  let c1_1176 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2122 : Index := Scalar.indexCast v1283
  let c256_1177 : Index := 256#32
  ![1, v2122.toNat, 256]
def k0_off9 (k0_t1 : Fin k0_t1_loop.trips) (c0_i32_1198 : BitVec 32) (c0_i32_1199 : BitVec 32) : Fin 4 → Nat :=
  let c2_1200 : Index := 2#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v2210 : BitVec 32 := Scalar.addi v1285 c0_i32_1198
  let v2211 : BitVec 32 := Scalar.addi v2210 c0_i32_1199
  let v2212 : Index := Scalar.indexCast v2211
  let c0_1201 : Index := 0#32
  ![2, v2212.toNat, 0, 0]
def k0_off10 (k0_t1 : Fin k0_t1_loop.trips) : Fin 3 → Nat :=
  let c0_1290 : Index := 0#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2534 : Index := Scalar.indexCast v1283
  let c384_1291 : Index := 384#32
  ![0, v2534.toNat, 384]
def k0_off11 (k0_t1 : Fin k0_t1_loop.trips) : Fin 3 → Nat :=
  let c1_1292 : Index := 1#32
  let c0_i32_943 : BitVec 32 := 0#32
  let c1_i32 : BitVec 32 := 1#32
  let arg8 : BitVec 32 := Scf.iv c0_i32_943 c1_i32 k0_t1
  let c32_i32 : BitVec 32 := 32#32
  let v1282 : BitVec 32 := Scalar.muli arg8 c32_i32
  let v1283 : BitVec 32 := v1282
  let v2538 : Index := Scalar.indexCast v1283
  let c384_1293 : Index := 384#32
  ![1, v2538.toNat, 384]
def k0_off12 (k0_t1 : Fin k0_t1_loop.trips) (c0_i32_1314 : BitVec 32) (c0_i32_1315 : BitVec 32) : Fin 4 → Nat :=
  let c3_1316 : Index := 3#32
  let c0_i32_943 : BitVec 32 := 0#32
  let c1_i32 : BitVec 32 := 1#32
  let arg8 : BitVec 32 := Scf.iv c0_i32_943 c1_i32 k0_t1
  let c128_i32 : BitVec 32 := 128#32
  let v1284 : BitVec 32 := Scalar.muli arg8 c128_i32
  let v1285 : BitVec 32 := v1284
  let v2626 : BitVec 32 := Scalar.addi v1285 c0_i32_1314
  let v2627 : BitVec 32 := Scalar.addi v2626 c0_i32_1315
  let v2628 : Index := Scalar.indexCast v2627
  let c0_1317 : Index := 0#32
  ![3, v2628.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1792x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S9x768x14336 : Shape := ⟨3, ![9, 768, 14336]⟩
abbrev S4096x1792x2 : Shape := ⟨3, ![4096, 1792, 2]⟩
abbrev S2x256x8 : Shape := ⟨3, ![2, 256, 8]⟩
abbrev S4096 : Shape := ⟨1, ![4096]⟩
abbrev S2 : Shape := ⟨1, ![2]⟩
abbrev S1x1x2 : Shape := ⟨3, ![1, 1, 2]⟩
abbrev S_ : Shape := ⟨0, ![]⟩
abbrev S4096x1792x2x1 : Shape := ⟨4, ![4096, 1792, 2, 1]⟩
abbrev S4096x1792x2x2 : Shape := ⟨4, ![4096, 1792, 2, 2]⟩
abbrev S4096x1792x2x8 : Shape := ⟨4, ![4096, 1792, 2, 8]⟩
abbrev S4096x1792x8 : Shape := ⟨3, ![4096, 1792, 8]⟩
abbrev S4096x14336 : Shape := ⟨2, ![4096, 14336]⟩
abbrev S9x768x4096 : Shape := ⟨3, ![9, 768, 4096]⟩
abbrev S1x1x4096 : Shape := ⟨3, ![1, 1, 4096]⟩

abbrev nBuf : Space → Nat
  | .hbm => 36
  | .vmem => 2
  | .smem => 0
  | _ => 0

abbrev bufTy : (tb : Table) → Fin (tcTables nBuf tb) → BufTy
  | .hbm, ⟨0, _⟩ => ⟨S9x768x14336, .bf16⟩
  | .hbm, ⟨1, _⟩ => ⟨S4096x1792x2, .i8⟩
  | .hbm, ⟨2, _⟩ => ⟨S2x256x8, .i8⟩
  | .hbm, ⟨3, _⟩ => ⟨S4096, .f32⟩
  | .hbm, ⟨4, _⟩ => ⟨S2x256x8, .f32⟩
  | .hbm, ⟨5, _⟩ => ⟨S4096x1792x2, .i32⟩
  | .hbm, ⟨6, _⟩ => ⟨S2, .i32⟩
  | .hbm, ⟨7, _⟩ => ⟨S1x1x2, .i32⟩
  | .hbm, ⟨8, _⟩ => ⟨S_, .i32⟩
  | .hbm, ⟨9, _⟩ => ⟨S1x1x2, .i32⟩
  | .hbm, ⟨10, _⟩ => ⟨S1x1x2, .i1⟩
  | .hbm, ⟨11, _⟩ => ⟨S_, .i32⟩
  | .hbm, ⟨12, _⟩ => ⟨S1x1x2, .i32⟩
  | .hbm, ⟨13, _⟩ => ⟨S1x1x2, .i32⟩
  | .hbm, ⟨14, _⟩ => ⟨S1x1x2, .i32⟩
  | .hbm, ⟨15, _⟩ => ⟨S_, .i32⟩
  | .hbm, ⟨16, _⟩ => ⟨S4096x1792x2, .i32⟩
  | .hbm, ⟨17, _⟩ => ⟨S4096x1792x2, .i1⟩
  | .hbm, ⟨18, _⟩ => ⟨S_, .i32⟩
  | .hbm, ⟨19, _⟩ => ⟨S4096x1792x2, .i32⟩
  | .hbm, ⟨20, _⟩ => ⟨S4096x1792x2, .i32⟩
  | .hbm, ⟨21, _⟩ => ⟨S4096x1792x2, .i32⟩
  | .hbm, ⟨22, _⟩ => ⟨S4096x1792x2, .i32⟩
  | .hbm, ⟨23, _⟩ => ⟨S4096x1792x2x1, .i32⟩
  | .hbm, ⟨24, _⟩ => ⟨S4096x1792x2x1, .i32⟩
  | .hbm, ⟨25, _⟩ => ⟨S4096x1792x2x2, .i32⟩
  | .hbm, ⟨26, _⟩ => ⟨S4096x1792x2x8, .f32⟩
  | .hbm, ⟨27, _⟩ => ⟨S_, .f32⟩
  | .hbm, ⟨28, _⟩ => ⟨S4096x1792x8, .f32⟩
  | .hbm, ⟨29, _⟩ => ⟨S4096x1792x8, .bf16⟩
  | .hbm, ⟨30, _⟩ => ⟨S4096x14336, .bf16⟩
  | .hbm, ⟨31, _⟩ => ⟨S9x768x4096, .f32⟩
  | .hbm, ⟨32, _⟩ => ⟨S1x1x4096, .f32⟩
  | .hbm, ⟨33, _⟩ => ⟨S9x768x4096, .f32⟩
  | .hbm, ⟨34, _⟩ => ⟨S9x768x4096, .f32⟩
  | .hbm, ⟨35, _⟩ => ⟨S9x768x4096, .bf16⟩
  | .local _ .vmem, ⟨0, _⟩ => ⟨S2x256x8, .i8⟩
  | .local _ .vmem, ⟨1, _⟩ => ⟨S2x256x8, .f32⟩
  | _, _ => ⟨S9x768x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256x8 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelBody.lean ====
/-
  One grid point of `Kernel`, for the frame: the body's triple when the point decodes the codes (`kernelRun_A`) and when it does not
  (`kernelRun_B`). Nothing is said of what the scratch or the result hold: only that the body runs and leaves its inputs as they were.
-/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The decoding loop's invariant: the codes' buffer is read and kept, the scratch buffer holds something. -/
@[sl_loop] def loopInv_k0_t1 (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x128 .i32) (harg7 : arg7.IsWhole) (k0_h1 : k0_cond1 i = 1#1) (v1249 : Vec F S1x128 .i32) (v1253 : Vec F S1x128 .i32) (v1257 : Vec F S1x128 .i32) (v1261 : Vec F S1x128 .i32) (v1265 : Vec F S1x128 .i32) (v1269 : Vec F S1x128 .i32) (v1273 : Vec F S1x128 .i32) (v1277 : Vec F S1x128 .i32)
    (f2 : Buf (Elt F) (arg2.view.loc (c : Thread nD τ))) :
    Cert.Kernel.Gen.LoopInvTy_k0_t1 (F := F) Unit ℕ (UR sig nD τ) ℕ Variants.none c none Set.univ i arg2 harg2 arg3 harg3 arg4 harg4 arg5 harg5 arg6 harg6 arg7 harg7 k0_h1 v1249 v1253 v1257 v1261 v1265 v1269 v1273 v1277 where
  inv := fun _ _ => iprop((arg2.view.loc (c : Thread nD τ) ↦[arg2.view.set]{fullShare} f2) ∗ (∃ f7, arg7.view.loc (c : Thread nD τ) ↦[arg7.view.set]{fullShare} f7))
  step := fun k acc => by
    unfold k0_t1_body
    iintro ⟨H2, ⟨%f7, H7⟩⟩
    sl_exec_parts
    sl_step
    isplitl [H2]; · iexact H2
    iexists _; iexact H7

set_option maxHeartbeats 4000000 in
/-- The body at a point that decodes: the inputs stay as they were, the result and the scratch hold something. -/
theorem kernelRun_A (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x128 .i32) (harg7 : arg7.IsWhole) (hc0 : k0_cond1 i = 1#1)
    (x2 : Vec F S2x1792x512 .i8) (x3 : Vec F S8x128 .i32) (x4 : Vec F S256x14336 .bf16) (x5 : Vec F S1x512 .f32) :
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)) -∗ K ⟨⟩))
          ⊢ wp frame (wpE (defs₀ (F := F)) Variants.none c none) Set.univ (cc0_aqlm_linear i arg2 harg2 arg3 harg3 arg4 harg4 arg5 harg5 arg6 harg6 arg7 harg7) K := by
    intro K
    rw [cc0_aqlm_linear_eq_skeleton]; unfold cc0_aqlm_linear_skel
    unfold owns
    iintro ⟨⟨%f2, %h2, H2⟩, ⟨%f3, %h3, H3⟩, ⟨%f4, %h4, H4⟩, ⟨%f5, %h5, H5⟩, ⟨%d6, %f6, -, H6⟩, ⟨%d7, %f7, -, H7⟩, Hk⟩
    sl_exec_parts (disch := first | sl_exact hc0)
    sl_step
    iapply Hk
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _, _; isplitr; swap; · iexact H6
      ipureintro; rfl
    iexists _, _; isplitr; swap; · iexact H7
    ipureintro; rfl

set_option maxHeartbeats 4000000 in
/-- The body at a point that does not decode: the inputs stay as they were, the result and the scratch hold something. -/
theorem kernelRun_B (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x128 .i32) (harg7 : arg7.IsWhole) (hc0 : ¬ k0_cond1 i = 1#1)
    (x2 : Vec F S2x1792x512 .i8) (x3 : Vec F S8x128 .i32) (x4 : Vec F S256x14336 .bf16) (x5 : Vec F S1x512 .f32) :
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)) -∗ K ⟨⟩))
          ⊢ wp frame (wpE (defs₀ (F := F)) Variants.none c none) Set.univ (cc0_aqlm_linear i arg2 harg2 arg3 harg3 arg4 harg4 arg5 harg5 arg6 harg6 arg7 harg7) K := by
    intro K
    rw [cc0_aqlm_linear_eq_skeleton]; unfold cc0_aqlm_linear_skel
    unfold owns
    iintro ⟨⟨%f2, %h2, H2⟩, ⟨%f3, %h3, H3⟩, ⟨%f4, %h4, H4⟩, ⟨%f5, %h5, H5⟩, ⟨%d6, %f6, -, H6⟩, ⟨%d7, %f7, -, H7⟩, Hk⟩
    sl_exec_parts (disch := first | sl_exact hc0)
    sl_step
    iapply Hk
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _, _; isplitr; swap; · iexact H6
      ipureintro; rfl
    iexists _, _; isplitr; swap; · iexact H7
    ipureintro; rfl

end Cert.Kernel.Hand

end
-- ==== Proof.KernelFrame.lean ====
/-
  `Kernel`'s frame: the pipeline's proof data with the result's contents left unnamed, the body obligation at every grid point from
  the two body triples (`KernelBody`), the launch, and the claim that the run ends with the arguments unchanged and every semaphore
  counter at zero (`frame`).
-/
module

public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The one buffer the host writes after the region: the reshaped result. -/
def T0 : Finset (Ref sig .tc) := {main_v9}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The result's window (4) is forgotten: nothing is said of what the kernel leaves in it. -/
def forgets0 : Fin 5 → Bool := fun w => w.val == 4

/-- The proof data of the pipeline: inputs at their blocks, the result unnamed, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scratch operand. -/
abbrev scM : Memref sig .tc .vmem S4x7168x128 .i32 := Memref.whole cc0_scratch0

theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

set_option maxHeartbeats 800000 in
/-- The body at any point, by whether the point decodes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  by_cases h0 : k0_cond1 (grid0.coords t) = 1#1
  · iintro ⟨⟨HS0, Hg⟩, Ho, ⟨%d0, H0⟩, ⟨%d1, H1⟩, ⟨%d2, H2⟩, ⟨%d3, H3⟩, ⟨%d4, H4⟩⟩
    iapply ((kernelRun_A c (grid0.coords t) _ _ _ _ _ _ _ _ _ _ _ _ h0 (iblk m c 0 t) (iblk m c 1 t) (iblk m c 2 t) (iblk m c 3 t)) _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · iintro ⟨⟨HS0, Hg⟩, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ h0 (iblk m c 0 t) (iblk m c 1 t) (iblk m c 2 t) (iblk m c 3 t)) _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every execution of @main ends with the arrays the kernel only reads unchanged and the counters at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- `Kernel`'s frame: every execution ends, the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2 main_arg0 (Finset.mem_sdiff.mpr ⟨Pipeline.mem_restRefs_of main_arg0 (by decide) (by decide), by decide⟩) |>.trans (V_main_arg0 m c),
      (h.1 c).2 main_arg1 (Finset.mem_sdiff.mpr ⟨Pipeline.mem_restRefs_of main_arg1 (by decide) (by decide), by decide⟩) |>.trans (V_main_arg1 m c),
      (h.1 c).2 main_arg2 (Finset.mem_sdiff.mpr ⟨Pipeline.mem_restRefs_of main_arg2 (by decide) (by decide), by decide⟩) |>.trans (V_main_arg2 m c),
      (h.1 c).2 main_arg3 (Finset.mem_sdiff.mpr ⟨Pipeline.mem_restRefs_of main_arg3 (by decide) (by decide), by decide⟩) |>.trans (V_main_arg3 m c)⟩, h.2⟩)
    (run_main_quiescent m ρ)

end Cert.Kernel.Hand

end
-- ==== Proof.KernelIdealDecode.lean ====
/-
  What one decoding store of `KernelIdeal` puts into the scratch: the generic form of the stored payload
  (`decodeStore`), and the payload read at an index (`decodeStore_apply`).
-/
module

public import proofs.«01_k».proof.Proof.Gen.KernelIdeal.Skeleton
public import Idealize.ShloMosaic.Lib.Bf16Pair
public import Idealize.ShloMosaic.Lib.BitcastPair
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic
open Idealize.ShloMosaic.ValueIdx

variable {F : FTy → Type} [FloatOps F]

/-- The word a code selects from a pair of table rows: the low row for codes below 128, the high row from 128 on,
    at the code's place within its row. -/
def word (lo hi : S1x128.Idx → BitVec 32) (v : BitVec 8) : BitVec 32 :=
  if 128 ≤ v.toNat then hi (ix2 0 ⟨v.toNat % 128, Nat.mod_lt _ (by decide)⟩)
  else lo (ix2 0 ⟨v.toNat % 128, Nat.mod_lt _ (by decide)⟩)

/-- Byte `b` of a word, decoded. -/
def decByte (b : Nat) (w : BitVec 32) : F .bf16 :=
  FloatOps.extf .bf16 bitsLt_fp8e4m3_bf16 (FloatOps.ofBits .fp8e4m3 (w.extractLsb' (8 * b) 8))

/-- A table row, spread over eight sublanes. -/
def spread (v : Vec F S1x128 .i32) : IVec S8x128 32 := k0_pay237 (F := F) v

/-- Eight rows of thirty-two codes, from row `8 s` on. -/
def codeRows (s : Nat) (hs : S32x128.Slices ![8 * s, 0] S8x128) (c : Vec F S1x32x128 .i8) : IVec S8x128 32 :=
  extractStridedSlice S8x128 ![8 * s, 0] (extui 32 (shapeCast S32x128 c shapeCasts_S1x32x128_S32x128) natLt_8_32) hs

/-- The place of each code within its table row, as the lookup takes it. -/
def place (x : IVec S8x128 32) : IVec S8x128 32 :=
  shapeCast S8x128 (shapeCast S8x128x1
    (select (cmpi .slt (andi x (broadcast S8x128 127#32)) (broadcast S8x128 0#32))
      (addi (andi x (broadcast S8x128 127#32)) (broadcast S8x128 128#32)) (andi x (broadcast S8x128 127#32)))
    shapeCasts_S8x128_S8x128x1) shapeCasts_S8x128x1_S8x128

/-- The words the codes select from the two table rows. -/
def look (lo hi : IVec S8x128 32) (x : IVec S8x128 32) : IVec S8x128 32 :=
  select (cmpi .sge x (broadcast S8x128 128#32)) (dynamicGather 1 hi (place x)) (dynamicGather 1 lo (place x))

/-- The bytes of the words, decoded. -/
def decWords (w : IVec S8x128 32) : FVec F S32x128 .bf16 :=
  extf .bf16 (bitcastToFloat .fp8e4m3 (bitcast S32x128 8 w bitcasts_S8x128_w32_S32x128_w8)) bitsLt_fp8e4m3_bf16

/-- What one store writes: the two books' decoded bytes added, laid out as row pairs. -/
def decodeStore (lo0 hi0 lo1 hi1 : Vec F S1x128 .i32) (c0 c1 : Vec F S1x32x128 .i8) (s : Nat)
    (hs : S32x128.Slices ![8 * s, 0] S8x128) : Vec F S1x16x2x128 .bf16 :=
  have x : FVec F S32x128 .bf16 := addf (decWords (look (spread (F := F) lo0) (spread (F := F) hi0) (codeRows (F := F) s hs c0)))
    (decWords (look (spread (F := F) lo1) (spread (F := F) hi1) (codeRows (F := F) s hs c1)))
  interleaveRows S1x16x2x128
    (shapeCast S1x16x1x128 (shapeCast S1x16x128 (rowsOfParity 0 S16x128 x bitcasts_S32x128_w16_S16x128_w32) shapeCasts_S16x128_S1x16x128) shapeCasts_S1x16x128_S1x16x1x128)
    (shapeCast S1x16x1x128 (shapeCast S1x16x128 (rowsOfParity 1 S16x128 x bitcasts_S32x128_w16_S16x128_w32) shapeCasts_S16x128_S1x16x128) shapeCasts_S1x16x128_S1x16x1x128)
    bitcasts_S1x16x2x128_w16_S1x16x1x128_w32

/-- A spread row, read. -/
theorem spread_apply (v : Vec F S1x128 .i32) (a : Fin 8) (l : Fin 128) : spread v (ix2 a l) = v (ix2 0 l) := by
  unfold spread k0_pay237
  refine (broadcastTo_apply _ _ _ (ix2 0 l) ?_).trans ?_
  · intro b; match b with
    | ⟨0, _⟩ => rfl
    | ⟨1, _⟩ => rfl
  · refine (shapeCast_apply _ _ _ (ix2 0 l) rfl).trans (shapeCast_apply _ _ _ (ix2 0 l) rfl)

/-- Codes, read. -/
theorem codeRows_apply (s : Nat) (hs : S32x128.Slices ![8 * s, 0] S8x128) (c : Vec F S1x32x128 .i8) (a : Fin 8) (l : Fin 128)
    (g : Fin 32) (hg : g.val = 8 * s + a.val) : codeRows s hs c (ix2 a l) = (c (ix3 0 g l)).setWidth 32 := by
  unfold codeRows
  refine (extractStridedSlice_apply _ _ _ _ (ix2 g l) ?_).trans ?_
  · intro b; match b with
    | ⟨0, _⟩ => exact hg
    | ⟨1, _⟩ => exact (Nat.zero_add _).symm
  · show BitVec.setWidth 32 (shapeCast S32x128 c shapeCasts_S1x32x128_S32x128 (ix2 g l)) = _
    rw [shapeCast_apply c _ _ (ix3 0 g l) (by
      rw [Shape.rowMajor_val_three, Shape.rowMajor_val_two]; show (0 * 32 + g.val) * 128 + l.val = g.val * 128 + l.val; omega)]

theorem slt_zero (v : BitVec 8) : IntOp.cmpi .slt (IntOp.andi (v.setWidth 32) 127#32) 0#32 = 0#1 := by
  revert v; decide +kernel
theorem place_nat (v : BitVec 8) : (IntOp.andi (v.setWidth 32) 127#32).toNat = v.toNat % 128 := by
  revert v; decide +kernel
theorem sge_128 (v : BitVec 8) : IntOp.cmpi .sge (v.setWidth 32) 128#32 = if 128 ≤ v.toNat then 1#1 else 0#1 := by
  revert v; decide +kernel

/-- A code's place within its table row. -/
theorem place_apply (x : IVec S8x128 32) (a : Fin 8) (l : Fin 128) (v : BitVec 8) (hx : x (ix2 a l) = v.setWidth 32) :
    (place x (ix2 a l)).toNat = v.toNat % 128 := by
  unfold place
  rw [shapeCast_apply _ _ _ (ix3 a l 0) (by
      rw [Shape.rowMajor_val_three, Shape.rowMajor_val_two]; show (a.val * 128 + l.val) * 1 + 0 = a.val * 128 + l.val; omega),
    shapeCast_apply _ _ _ (ix2 a l) (by
      rw [Shape.rowMajor_val_three, Shape.rowMajor_val_two]; show a.val * 128 + l.val = (a.val * 128 + l.val) * 1 + 0; omega)]
  show (Scalar.select (IntOp.cmpi .slt (IntOp.andi (x (ix2 a l)) 127#32) 0#32) (IntOp.addi (IntOp.andi (x (ix2 a l)) 127#32) 128#32)
    (IntOp.andi (x (ix2 a l)) 127#32)).toNat = _
  rw [hx, slt_zero, Scalar.select, if_neg (by decide), place_nat]

/-- The lookup, read. -/
theorem look_apply (lo hi : Vec F S1x128 .i32) (x : IVec S8x128 32) (a : Fin 8) (l : Fin 128) (v : BitVec 8)
    (hx : x (ix2 a l) = v.setWidth 32) : look (spread lo) (spread hi) x (ix2 a l) = word lo hi v := by
  have hd : ∀ t : Vec F S1x128 .i32, dynamicGather 1 (spread t) (place x) (ix2 a l)
      = t (ix2 0 ⟨v.toNat % 128, Nat.mod_lt _ (by decide)⟩) := fun t => by
    rw [← spread_apply t a]
    unfold dynamicGather
    congr 1
    funext b
    match b with
    | ⟨0, _⟩ => rfl
    | ⟨1, _⟩ =>
      refine Fin.ext ?_
      show (place x (ix2 a l)).toNat % 128 = v.toNat % 128
      rw [place_apply x a l v hx]; omega
  show Scalar.select (IntOp.cmpi .sge (x (ix2 a l)) 128#32) (dynamicGather 1 (spread hi) (place x) (ix2 a l))
    (dynamicGather 1 (spread lo) (place x) (ix2 a l)) = _
  rw [hd, hd, hx, sge_128, word, Scalar.select]
  by_cases h : 128 ≤ v.toNat
  · rw [if_pos h, if_pos h, if_pos (by decide)]
  · rw [if_neg h, if_neg h, if_neg (by decide)]

/-- A word's bytes are the four rows it stands for. -/
theorem bytes_apply (w : IVec S8x128 32) (r : Fin 32) (l : Fin 128) (a : Fin 8) (b : Nat) (hb : b < 4) (hr : r.val = 4 * a.val + b) :
    bitcast S32x128 8 w bitcasts_S8x128_w32_S32x128_w8 (ix2 r l) = (w (ix2 a l)).extractLsb' (8 * b) 8 := by
  apply BitVec.eq_of_getLsbD_eq
  intro q hq
  rw [bitcast_getLsbD _ _ _ q hq (by decide), BitVec.getLsbD_extractLsb']
  have hrow : S32x128.row (ix2 r l) = r.val := rfl
  have e1 : (S32x128.row (ix2 r l) * 8 + q) / 32 = a.val := by rw [hrow]; omega
  have e2 : (S32x128.row (ix2 r l) * 8 + q) % 32 = 8 * b + q := by rw [hrow]; omega
  rw [e2, decide_eq_true hq, Bool.true_and]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The bytes of the words decoded, read. -/
theorem decWords_apply (w : IVec S8x128 32) (r : Fin 32) (l : Fin 128) (a : Fin 8) (b : Nat) (hb : b < 4) (hr : r.val = 4 * a.val + b) :
    decWords (F := F) w (ix2 r l) = decByte b (w (ix2 a l)) := by
  unfold decByte
  rw [← bytes_apply w r l a b hb hr]; rfl

/-- The element the scratch holds for two codes, of one book each, and a byte place. -/
def decoded (lo0 hi0 lo1 hi1 : S1x128.Idx → BitVec 32) (b : Nat) (v0 v1 : BitVec 8) : F .bf16 :=
  FloatOps.addf (decByte b (word lo0 hi0 v0)) (decByte b (word lo1 hi1 v1))

/-- What one store writes, read: pair row `q`, parity `p`, lane `l` decodes byte `2 (q % 2) + p` of the codes `8 s + q / 2`. -/
theorem decodeStore_apply (lo0 hi0 lo1 hi1 : Vec F S1x128 .i32) (c0 c1 : Vec F S1x32x128 .i8) (s : Nat)
    (hs : S32x128.Slices ![8 * s, 0] S8x128) (z : Fin 1) (q : Fin 16) (p : Fin 2) (l : Fin 128) (g : Fin 32)
    (hg : g.val = 8 * s + q.val / 2) :
    decodeStore lo0 hi0 lo1 hi1 c0 c1 s hs (ix4 z q p l)
      = decoded lo0 hi0 lo1 hi1 (2 * (q.val % 2) + p.val) (c0 (ix3 0 g l)) (c1 (ix3 0 g l)) := by
  have hq := q.isLt
  have hp := p.isLt
  have key : ∀ x : FVec F S32x128 .bf16, ∀ r : Fin 32, r.val = 2 * q.val + p.val →
      interleaveRows S1x16x2x128
        (shapeCast S1x16x1x128 (shapeCast S1x16x128 (rowsOfParity 0 S16x128 x bitcasts_S32x128_w16_S16x128_w32) shapeCasts_S16x128_S1x16x128) shapeCasts_S1x16x128_S1x16x1x128)
        (shapeCast S1x16x1x128 (shapeCast S1x16x128 (rowsOfParity 1 S16x128 x bitcasts_S32x128_w16_S16x128_w32) shapeCasts_S16x128_S1x16x128) shapeCasts_S1x16x128_S1x16x1x128)
        bitcasts_S1x16x2x128_w16_S1x16x1x128_w32 (ix4 z q p l) = x (ix2 r l) := by
    intro x r hr
    have hcast : ∀ y : FVec F S16x128 .bf16, ∀ j : S1x16x1x128.Idx, (j 1).val = q.val → (j 3).val = l.val →
        shapeCast S1x16x1x128 (shapeCast S1x16x128 y shapeCasts_S16x128_S1x16x128) shapeCasts_S1x16x128_S1x16x1x128 j = y (ix2 q l) := by
      intro y j h1 h3
      have h0 : (j 0).val < 1 := (j 0).isLt
      have h2 : (j 2).val < 1 := (j 2).isLt
      rw [shapeCast_apply _ _ j (ix3 0 q l) (by
          rw [Shape.rowMajor_val_three, Shape.rowMajor_val_four]
          show (0 * 16 + q.val) * 128 + l.val = (((j 0).val * 16 + (j 1).val) * 1 + (j 2).val) * 128 + (j 3).val
          omega),
        shapeCast_apply _ _ _ (ix2 q l) (by
          rw [Shape.rowMajor_val_three, Shape.rowMajor_val_two]
          show q.val * 128 + l.val = (0 * 16 + q.val) * 128 + l.val; omega)]
    have hpar : ∀ P : Fin 2, P.val = p.val → rowsOfParity P S16x128 x bitcasts_S32x128_w16_S16x128_w32 (ix2 q l) = x (ix2 r l) := by
      intro P hP
      unfold rowsOfParity
      congr 1
      funext a
      match a with
      | ⟨0, _⟩ => exact Fin.ext (by show 2 * q.val + P.val = r.val; omega)
      | ⟨1, _⟩ => rfl
    unfold interleaveRows
    dsimp only
    have hrow : S1x16x2x128.row (ix4 z q p l) = p.val := rfl
    split
    · rename_i h
      rw [hrow] at h
      rw [hcast _ _ rfl rfl]
      exact hpar 0 (by show 0 = p.val; omega)
    · rename_i h
      rw [hrow] at h
      rw [hcast _ _ rfl rfl]
      exact hpar 1 (by show 1 = p.val; omega)
  unfold decodeStore
  rw [key _ ⟨2 * q.val + p.val, by omega⟩ rfl]
  show FloatOps.addf (decWords _ _) (decWords _ _) = _
  rw [decWords_apply _ _ l ⟨q.val / 2, by omega⟩ (2 * (q.val % 2) + p.val) (by omega) (by show 2 * q.val + p.val = 4 * (q.val / 2) + (2 * (q.val % 2) + p.val); omega),
    decWords_apply _ _ l ⟨q.val / 2, by omega⟩ (2 * (q.val % 2) + p.val) (by omega) (by show 2 * q.val + p.val = 4 * (q.val / 2) + (2 * (q.val % 2) + p.val); omega),
    look_apply _ _ _ _ _ (c0 (ix3 0 g l)) (codeRows_apply s hs c0 _ _ g hg),
    look_apply _ _ _ _ _ (c1 (ix3 0 g l)) (codeRows_apply s hs c1 _ _ g hg)]
  rfl

end Cert.KernelIdeal.Hand

end
-- ==== Proof.KernelIdealScratch.lean ====
/-
  The scratch of `KernelIdeal`: what it holds once a panel is decoded (`scratch`), the thirty-two stores one trip of the
  decoding loop makes (`pieces`), and that after them the trip's rows hold what they should (`read_pieces`).
-/
module

public import proofs.«01_k».proof.Proof.KernelIdealDecode

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]

/-- One of two things, by a row's half. -/
def half {α : Type} (h : ℕ) (a b : α) : α := if h = 0 then a else b

/-- The decoded panel: pair row `r`, parity `p`, of lane tile `z`, is byte `2 (r / 2 % 2) + p` of the words of half `r % 2`
    that the two codes of group `r / 4` select. -/
def scratch (T : Fin 8 → S1x128.Idx → BitVec 32) (X : S2x1792x512.Idx → BitVec 8) : S4x7168x2x128.Idx → F .bf16 := fun i =>
  decoded (half ((i 1).val % 2) (T 0) (T 2)) (half ((i 1).val % 2) (T 1) (T 3)) (half ((i 1).val % 2) (T 4) (T 6))
    (half ((i 1).val % 2) (T 5) (T 7)) (2 * ((i 1).val / 2 % 2) + (i 2).val)
    (X (ix3 0 ⟨(i 1).val / 4, by have h : (i 1).val < 7168 := (i 1).isLt; omega⟩
      ⟨128 * (i 0).val + (i 3).val, by have h : (i 0).val < 4 := (i 0).isLt; have h' : (i 3).val < 128 := (i 3).isLt; omega⟩))
    (X (ix3 1 ⟨(i 1).val / 4, by have h : (i 1).val < 7168 := (i 1).isLt; omega⟩
      ⟨128 * (i 0).val + (i 3).val, by have h : (i 0).val < 4 := (i 0).isLt; have h' : (i 3).val < 128 := (i 3).isLt; omega⟩))

theorem trips_eq : k0_t1_loop.trips = 56 := by decide +kernel

/-- A load of codes reads the trip's rows of one book in one lane tile. -/
theorem codes_apply (arg2 : Memref sig .tc .vmem S2x1792x512 .i8) (f2 : arg2.view.ty.Contents (Elt F)) (off : Fin 3 → ℕ)
    (inb : ∀ a, off a + S1x32x128.size a ≤ S2x1792x512.size a) (m : Fin 2) (k : Fin k0_t1_loop.trips) (L : Fin 4)
    (hoff : off = ![m.val, 32 * k.val, 128 * L.val]) (g : Fin 32) (l : Fin 128) (R : Fin 1792) (C : Fin 512)
    (hR : R.val = 32 * k.val + g.val) (hC : C.val = 128 * L.val + l.val) :
    arg2.view.readAt (Elt F) (Rect.unit (s := S2x1792x512) off S1x32x128.size inb).toLoadRect f2 (ix3 0 g l)
      = arg2.view.read (Elt F) f2 (ix3 m R C) := by
  subst hoff
  rw [View.readAt_apply]
  congr 1
  funext a
  refine Fin.ext ?_
  match a with
  | ⟨0, _⟩ => show m.val + 1 * 0 = m.val; omega
  | ⟨1, _⟩ => show 32 * k.val + 1 * g.val = R.val; omega
  | ⟨2, _⟩ => show 128 * L.val + 1 * l.val = C.val; omega

/-- A store of the trip writes what the decoded panel has there. -/
theorem store_agrees (T : Fin 8 → S1x128.Idx → BitVec 32) (X : S2x1792x512.Idx → BitVec 8) (k : Fin k0_t1_loop.trips)
    (L s : Fin 4) (h : Fin 2) (off : Fin 4 → ℕ) (inb) (hoff : off = ![L.val, 128 * k.val + 32 * s.val + h.val, 0, 0])
    (hs : S32x128.Slices ![8 * s.val, 0] S8x128) (c0 c1 : Vec F S1x32x128 .i8)
    (hc0 : ∀ (g : Fin 32) (l : Fin 128) (R : Fin 1792) (C : Fin 512), R.val = 32 * k.val + g.val → C.val = 128 * L.val + l.val →
      c0 (ix3 0 g l) = X (ix3 0 R C))
    (hc1 : ∀ (g : Fin 32) (l : Fin 128) (R : Fin 1792) (C : Fin 512), R.val = 32 * k.val + g.val → C.val = 128 * L.val + l.val →
      c1 (ix3 0 g l) = X (ix3 1 R C))
    (x : S1x16x2x128.Idx) :
    decodeStore (F := F) (half h.val (T 0) (T 2)) (half h.val (T 1) (T 3)) (half h.val (T 4) (T 6)) (half h.val (T 5) (T 7)) c0 c1 s.val hs x
      = scratch T X ((⟨(⟨off, S1x16x2x128.size, ![1, 2, 1, 1], inb⟩ : LoadRect S4x7168x2x128), spos_1_2_1_1⟩ : Rect S4x7168x2x128).emb x) := by
  subst hoff
  obtain ⟨x0, x1, x2, x3, rfl⟩ : ∃ (a : Fin 1) (b : Fin 16) (c : Fin 2) (d : Fin 128), x = ix4 a b c d := by
    refine ⟨x 0, x 1, x 2, x 3, funext fun a => ?_⟩
    match a with
    | ⟨0, _⟩ => rfl
    | ⟨1, _⟩ => rfl
    | ⟨2, _⟩ => rfl
    | ⟨3, _⟩ => rfl
  have hx0 := x0.isLt
  have hx1 := x1.isLt
  have hx2 := x2.isLt
  have hx3 := x3.isLt
  have hk : k.val < 56 := trips_eq ▸ k.isLt
  have hL := L.isLt
  have hs4 := s.isLt
  have hh := h.isLt
  have hrow : (((⟨(⟨![L.val, 128 * k.val + 32 * s.val + h.val, 0, 0], S1x16x2x128.size, ![1, 2, 1, 1], inb⟩ : LoadRect S4x7168x2x128), spos_1_2_1_1⟩ : Rect S4x7168x2x128).emb (ix4 x0 x1 x2 x3)) 1).val
      = 128 * k.val + 32 * s.val + h.val + 2 * x1.val := rfl
  have htile : (((⟨(⟨![L.val, 128 * k.val + 32 * s.val + h.val, 0, 0], S1x16x2x128.size, ![1, 2, 1, 1], inb⟩ : LoadRect S4x7168x2x128), spos_1_2_1_1⟩ : Rect S4x7168x2x128).emb (ix4 x0 x1 x2 x3)) 0).val
      = L.val + 1 * x0.val := rfl
  have hpar : (((⟨(⟨![L.val, 128 * k.val + 32 * s.val + h.val, 0, 0], S1x16x2x128.size, ![1, 2, 1, 1], inb⟩ : LoadRect S4x7168x2x128), spos_1_2_1_1⟩ : Rect S4x7168x2x128).emb (ix4 x0 x1 x2 x3)) 2).val
      = 0 + 1 * x2.val := rfl
  have hlane : (((⟨(⟨![L.val, 128 * k.val + 32 * s.val + h.val, 0, 0], S1x16x2x128.size, ![1, 2, 1, 1], inb⟩ : LoadRect S4x7168x2x128), spos_1_2_1_1⟩ : Rect S4x7168x2x128).emb (ix4 x0 x1 x2 x3)) 3).val
      = 0 + 1 * x3.val := rfl
  generalize ((⟨(⟨![L.val, 128 * k.val + 32 * s.val + h.val, 0, 0], S1x16x2x128.size, ![1, 2, 1, 1], inb⟩ : LoadRect S4x7168x2x128), spos_1_2_1_1⟩ : Rect S4x7168x2x128).emb (ix4 x0 x1 x2 x3)) = i at hrow htile hpar hlane ⊢
  rw [decodeStore_apply _ _ _ _ _ _ _ hs x0 x1 x2 x3 ⟨8 * s.val + x1.val / 2, by omega⟩ rfl]
  unfold scratch
  rw [show (i 1).val % 2 = h.val by omega, show 2 * ((i 1).val / 2 % 2) + (i 2).val = 2 * (x1.val % 2) + x2.val by omega,
    hc0 _ _ ⟨(i 1).val / 4, by have h : (i 1).val < 7168 := (i 1).isLt; omega⟩
      ⟨128 * (i 0).val + (i 3).val, by have h : (i 0).val < 4 := (i 0).isLt; have h' : (i 3).val < 128 := (i 3).isLt; omega⟩
      (by show (i 1).val / 4 = 32 * k.val + (8 * s.val + x1.val / 2); omega) (by show 128 * (i 0).val + (i 3).val = 128 * L.val + x3.val; omega),
    hc1 _ _ ⟨(i 1).val / 4, by have h : (i 1).val < 7168 := (i 1).isLt; omega⟩
      ⟨128 * (i 0).val + (i 3).val, by have h : (i 0).val < 4 := (i 0).isLt; have h' : (i 3).val < 128 := (i 3).isLt; omega⟩
      (by show (i 1).val / 4 = 32 * k.val + (8 * s.val + x1.val / 2); omega) (by show 128 * (i 0).val + (i 3).val = 128 * L.val + x3.val; omega)]

/-- Where a store of the trip goes. -/
def storeOff : Fin 4 → Fin k0_t1_loop.trips → BitVec 32 → BitVec 32 → Fin 4 → ℕ
  | 0 => k0_off3 | 1 => k0_off6 | 2 => k0_off9 | 3 => k0_off12

theorem storeOff_eq (L : Fin 4) (k : Fin k0_t1_loop.trips) (s : Fin 4) (h : Fin 2) :
    storeOff L k (BitVec.ofNat 32 (32 * s.val)) (BitVec.ofNat 32 h.val) = ![L.val, 128 * k.val + 32 * s.val + h.val, 0, 0] :=
  match L with
  | 0 => Gen.k0_off3_eq k s h | 1 => Gen.k0_off6_eq k s h | 2 => Gen.k0_off9_eq k s h | 3 => Gen.k0_off12_eq k s h

theorem storeOff_inb (i : grid0.Coords) (h1 : k0_cond1 i = 1#1) (L : Fin 4) (k : Fin k0_t1_loop.trips) (s : Fin 4) (h : Fin 2) :
    ∀ a, S1x16x2x128.size a = 0 ∨ (storeOff L k (BitVec.ofNat 32 (32 * s.val)) (BitVec.ofNat 32 h.val)) a + (![1, 2, 1, 1] : Fin 4 → Nat) a * (S1x16x2x128.size a - 1) < S4x7168x2x128.size a :=
  match L with
  | 0 => k0_off3_inb i k h1 s h | 1 => k0_off6_inb i k h1 s h | 2 => k0_off9_inb i k h1 s h | 3 => k0_off12_inb i k h1 s h

/-- Where a load of codes of the trip reads. -/
def loadOff : Fin 4 → Fin 2 → Fin k0_t1_loop.trips → Fin 3 → ℕ
  | 0, 0 => k0_off1 | 0, 1 => k0_off2 | 1, 0 => k0_off4 | 1, 1 => k0_off5 | 2, 0 => k0_off7 | 2, 1 => k0_off8 | 3, 0 => k0_off10 | 3, 1 => k0_off11

theorem loadOff_eq (L : Fin 4) (m : Fin 2) (k : Fin k0_t1_loop.trips) : loadOff L m k = ![m.val, 32 * k.val, 128 * L.val] :=
  match L, m with
  | 0, 0 => Gen.k0_off1_eq k | 0, 1 => Gen.k0_off2_eq k | 1, 0 => Gen.k0_off4_eq k | 1, 1 => Gen.k0_off5_eq k
  | 2, 0 => Gen.k0_off7_eq k | 2, 1 => Gen.k0_off8_eq k | 3, 0 => Gen.k0_off10_eq k | 3, 1 => Gen.k0_off11_eq k

theorem loadOff_inb (i : grid0.Coords) (h1 : k0_cond1 i = 1#1) (L : Fin 4) (m : Fin 2) (k : Fin k0_t1_loop.trips) :
    ∀ a, (loadOff L m k) a + S1x32x128.size a ≤ S2x1792x512.size a :=
  match L, m with
  | 0, 0 => k0_off1_inb i k h1 | 0, 1 => k0_off2_inb i k h1 | 1, 0 => k0_off4_inb i k h1 | 1, 1 => k0_off5_inb i k h1
  | 2, 0 => k0_off7_inb i k h1 | 2, 1 => k0_off8_inb i k h1 | 3, 0 => k0_off10_inb i k h1 | 3, 1 => k0_off11_inb i k h1

/-- The codes a trip loads, of one book in one lane tile. -/
def codes (i : grid0.Coords) (h1 : k0_cond1 i = 1#1) (arg2 : Memref sig .tc .vmem S2x1792x512 .i8) (f2 : arg2.view.ty.Contents (Elt F))
    (k : Fin k0_t1_loop.trips) (L : Fin 4) (m : Fin 2) : Vec F S1x32x128 .i8 :=
  arg2.view.readAt (Elt F) (Rect.unit (s := S2x1792x512) (loadOff L m k) S1x32x128.size (loadOff_inb i h1 L m k)).toLoadRect f2

theorem slices_eight : ∀ s : Fin 4, S32x128.Slices ![8 * s.val, 0] S8x128 := by decide

/-- One store of a trip: where it goes and what it writes. -/
def piece (i : grid0.Coords) (h1 : k0_cond1 i = 1#1) (T : Fin 8 → S1x128.Idx → BitVec 32) (arg2 : Memref sig .tc .vmem S2x1792x512 .i8) (f2 : arg2.view.ty.Contents (Elt F))
    (k : Fin k0_t1_loop.trips) (L s : Fin 4) (h : Fin 2) : View.Piece (Elt F) S4x7168x2x128 .bf16 :=
  ⟨⟨(⟨storeOff L k (BitVec.ofNat 32 (32 * s.val)) (BitVec.ofNat 32 h.val), S1x16x2x128.size, ![1, 2, 1, 1], storeOff_inb i h1 L k s h⟩ : LoadRect S4x7168x2x128), spos_1_2_1_1⟩,
    decodeStore (F := F) (half h.val (T 0) (T 2)) (half h.val (T 1) (T 3)) (half h.val (T 4) (T 6)) (half h.val (T 5) (T 7))
      (codes i h1 arg2 f2 k L 0) (codes i h1 arg2 f2 k L 1) s.val (slices_eight s)⟩

/-- The stores of a trip, the last one first. -/
def pieces (i : grid0.Coords) (h1 : k0_cond1 i = 1#1) (T : Fin 8 → S1x128.Idx → BitVec 32) (arg2 : Memref sig .tc .vmem S2x1792x512 .i8) (f2 : arg2.view.ty.Contents (Elt F))
    (k : Fin k0_t1_loop.trips) : List (View.Piece (Elt F) S4x7168x2x128 .bf16) :=
  have P := piece i h1 T arg2 f2 k
  [P 3 3 1, P 3 3 0, P 3 2 1, P 3 2 0, P 3 1 1, P 3 1 0, P 3 0 1, P 3 0 0, P 2 3 1, P 2 3 0, P 2 2 1, P 2 2 0, P 2 1 1, P 2 1 0, P 2 0 1, P 2 0 0, P 1 3 1, P 1 3 0, P 1 2 1, P 1 2 0, P 1 1 1, P 1 1 0, P 1 0 1, P 1 0 0, P 0 3 1, P 0 3 0, P 0 2 1, P 0 2 0, P 0 1 1, P 0 1 0, P 0 0 1, P 0 0 0]

theorem piece_mem (i : grid0.Coords) (h1 : k0_cond1 i = 1#1) (T : Fin 8 → S1x128.Idx → BitVec 32) (arg2 : Memref sig .tc .vmem S2x1792x512 .i8) (f2 : arg2.view.ty.Contents (Elt F))
    (k : Fin k0_t1_loop.trips) (L s : Fin 4) (h : Fin 2) : piece i h1 T arg2 f2 k L s h ∈ pieces i h1 T arg2 f2 k := by
  unfold pieces
  generalize piece i h1 T arg2 f2 k = P
  fin_cases L <;> fin_cases s <;> fin_cases h <;> simp

theorem mem_pieces (i : grid0.Coords) (h1 : k0_cond1 i = 1#1) (T : Fin 8 → S1x128.Idx → BitVec 32) (arg2 : Memref sig .tc .vmem S2x1792x512 .i8) (f2 : arg2.view.ty.Contents (Elt F))
    (k : Fin k0_t1_loop.trips) (p) (hp : p ∈ pieces i h1 T arg2 f2 k) : ∃ L s h, p = piece i h1 T arg2 f2 k L s h := by
  unfold pieces at hp
  generalize piece i h1 T arg2 f2 k = P at hp ⊢
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact ⟨3, 3, 1, rfl⟩
  · exact ⟨3, 3, 0, rfl⟩
  · exact ⟨3, 2, 1, rfl⟩
  · exact ⟨3, 2, 0, rfl⟩
  · exact ⟨3, 1, 1, rfl⟩
  · exact ⟨3, 1, 0, rfl⟩
  · exact ⟨3, 0, 1, rfl⟩
  · exact ⟨3, 0, 0, rfl⟩
  · exact ⟨2, 3, 1, rfl⟩
  · exact ⟨2, 3, 0, rfl⟩
  · exact ⟨2, 2, 1, rfl⟩
  · exact ⟨2, 2, 0, rfl⟩
  · exact ⟨2, 1, 1, rfl⟩
  · exact ⟨2, 1, 0, rfl⟩
  · exact ⟨2, 0, 1, rfl⟩
  · exact ⟨2, 0, 0, rfl⟩
  · exact ⟨1, 3, 1, rfl⟩
  · exact ⟨1, 3, 0, rfl⟩
  · exact ⟨1, 2, 1, rfl⟩
  · exact ⟨1, 2, 0, rfl⟩
  · exact ⟨1, 1, 1, rfl⟩
  · exact ⟨1, 1, 0, rfl⟩
  · exact ⟨1, 0, 1, rfl⟩
  · exact ⟨1, 0, 0, rfl⟩
  · exact ⟨0, 3, 1, rfl⟩
  · exact ⟨0, 3, 0, rfl⟩
  · exact ⟨0, 2, 1, rfl⟩
  · exact ⟨0, 2, 0, rfl⟩
  · exact ⟨0, 1, 1, rfl⟩
  · exact ⟨0, 1, 0, rfl⟩
  · exact ⟨0, 0, 1, rfl⟩
  · exact ⟨0, 0, 0, rfl⟩

/-- Stores that each write a function's values leave the function, wherever they reach or it stood before. -/
theorem read_writes_agree {κ : Kind} {sp : Space} {s : Shape} {e : EltTy} {v : View sig κ sp s e} (f : v.ty.Contents (Elt F)) (W : s.Idx → Elt F e) (y : s.Idx) :
    ∀ L : List (View.Piece (Elt F) s e), (∀ p ∈ L, ∀ x : p.1.shape.Idx, p.2 x = W (p.1.emb x)) →
      (v.read (Elt F) f y = W y ∨ ∃ p ∈ L, y ∈ p.1.set) → v.read (Elt F) (v.writes (Elt F) f L) y = W y
  | [], _, h => by
    rcases h with h | ⟨_, hm, _⟩
    · exact h
    · exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_agree f W y L (fun q hq => hP q (List.mem_cons_of_mem _ hq)) ?_
      rcases h with h | ⟨q, hq, hyq⟩
      · exact Or.inl h
      · rcases List.mem_cons.mp hq with rfl | hq'
        · exact absurd hyq hy
        · exact Or.inr ⟨q, hq', hyq⟩

/-- After a trip the rows of its own and all earlier trips are decoded, if the earlier ones were before it. -/
theorem read_pieces (i : grid0.Coords) (h1 : k0_cond1 i = 1#1) (T : Fin 8 → S1x128.Idx → BitVec 32) (arg2 : Memref sig .tc .vmem S2x1792x512 .i8) (f2 : arg2.view.ty.Contents (Elt F))
    (k : Fin k0_t1_loop.trips) (v : View sig .tc .vmem S4x7168x2x128 .bf16) (f : v.ty.Contents (Elt F))
    (hf : ∀ y : S4x7168x2x128.Idx, (y 1).val < 128 * k.val → v.read (Elt F) f y = scratch T (arg2.view.read (Elt F) f2) y)
    (y : S4x7168x2x128.Idx) (hy : (y 1).val < 128 * (k.val + 1)) :
    v.read (Elt F) (v.writes (Elt F) f (pieces i h1 T arg2 f2 k)) y = scratch T (arg2.view.read (Elt F) f2) y := by
  have hy0 : (y 0).val < 4 := (y 0).isLt
  have hy2 : (y 2).val < 2 := (y 2).isLt
  have hy3 : (y 3).val < 128 := (y 3).isLt
  refine read_writes_agree f _ y _ ?_ ?_
  · intro p hp
    obtain ⟨L, s, h, rfl⟩ := mem_pieces i h1 T arg2 f2 k p hp
    intro x
    exact store_agrees T _ k L s h _ _ (storeOff_eq L k s h) (slices_eight s) _ _
      (fun g l R C hR hC => codes_apply arg2 f2 _ _ 0 k L (loadOff_eq L 0 k) g l R C hR hC)
      (fun g l R C hR hC => codes_apply arg2 f2 _ _ 1 k L (loadOff_eq L 1 k) g l R C hR hC) x
  · by_cases h : (y 1).val < 128 * k.val
    · exact Or.inl (hf y h)
    · refine Or.inr ⟨_, piece_mem i h1 T arg2 f2 k ⟨(y 0).val, hy0⟩ ⟨((y 1).val - 128 * k.val) / 32, by omega⟩ ⟨(y 1).val % 2, by omega⟩, ?_⟩
      refine (LoadRect.mem_set _).mpr ?_
      have ho := storeOff_eq ⟨(y 0).val, hy0⟩ k ⟨((y 1).val - 128 * k.val) / 32, by omega⟩ ⟨(y 1).val % 2, by omega⟩
      intro a
      show ∃ j < S1x16x2x128.size a, (y a).val = (storeOff ⟨(y 0).val, hy0⟩ k (BitVec.ofNat 32 (32 * (((y 1).val - 128 * k.val) / 32))) (BitVec.ofNat 32 ((y 1).val % 2))) a + (![1, 2, 1, 1] : Fin 4 → ℕ) a * j
      rw [ho]
      match a with
      | ⟨0, _⟩ => exact ⟨0, Nat.zero_lt_one, (Nat.add_zero _).symm⟩
      | ⟨1, _⟩ =>
        refine ⟨(y 1).val % 32 / 2, by show (y 1).val % 32 / 2 < 16; omega, ?_⟩
        show (y 1).val = 128 * k.val + 32 * (((y 1).val - 128 * k.val) / 32) + (y 1).val % 2 + 2 * ((y 1).val % 32 / 2)
        omega
      | ⟨2, _⟩ => exact ⟨(y 2).val, hy2, by show (y 2).val = 0 + 1 * (y 2).val; omega⟩
      | ⟨3, _⟩ => exact ⟨(y 3).val, hy3, by show (y 3).val = 0 + 1 * (y 3).val; omega⟩

end Cert.KernelIdeal.Hand

end
-- ==== Proof.KernelIdealTrip.lean ====
/-
  The decoding loop of `KernelIdeal`, with the contents: after `k` trips the first `128 k` pair rows of the scratch are decoded.
-/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdealScratch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The decoding loop's invariant: the codes' buffer is read and kept, the scratch's rows before the current trip's are decoded. -/
@[sl_loop] def decodeInv_k0_t1 (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x2x128 .bf16) (harg7 : arg7.IsWhole) (k0_h1 : k0_cond1 i = 1#1) (v1249 : Vec F S1x128 .i32) (v1253 : Vec F S1x128 .i32) (v1257 : Vec F S1x128 .i32) (v1261 : Vec F S1x128 .i32) (v1265 : Vec F S1x128 .i32) (v1269 : Vec F S1x128 .i32) (v1273 : Vec F S1x128 .i32) (v1277 : Vec F S1x128 .i32)
    (f2 : Buf (Elt F) (arg2.view.loc (c : Thread nD τ))) :
    Cert.KernelIdeal.Gen.LoopInvTy_k0_t1 (F := F) Unit ℕ (UR sig nD τ) ℕ Variants.none c none Set.univ i arg2 harg2 arg3 harg3 arg4 harg4 arg5 harg5 arg6 harg6 arg7 harg7 k0_h1 v1249 v1253 v1257 v1261 v1265 v1269 v1273 v1277 where
  inv := fun k _ => iprop((arg2.view.loc (c : Thread nD τ) ↦[arg2.view.set]{fullShare} f2) ∗ (∃ f7, ⌜∀ y : S4x7168x2x128.Idx, (y 1).val < 128 * k → arg7.view.read (Elt F) f7 y = scratch ![v1249, v1253, v1257, v1261, v1265, v1269, v1273, v1277] (arg2.view.read (Elt F) f2) y⌝ ∗ arg7.view.loc (c : Thread nD τ) ↦[arg7.view.set]{fullShare} f7))
  step := fun k acc => by
    unfold k0_t1_body
    iintro ⟨H2, ⟨%f7, %hf, H7⟩⟩
    sl_exec_parts
    sl_step
    isplitl [H2]; · iexact H2
    iexists (arg7.view.writes (Elt F) f7 (pieces i k0_h1 ![v1249, v1253, v1257, v1261, v1265, v1269, v1273, v1277] arg2 f2 k))
    isplitr
    · ipureintro
      exact fun y hy => read_pieces i k0_h1 ![v1249, v1253, v1257, v1261, v1265, v1269, v1273, v1277] arg2 f2 k arg7.view f7 hf y hy
    · iexact H7

end Cert.KernelIdeal.Hand

end
-- ==== Proof.KernelIdealMatmul.lean ====
/-
  The matmul of one grid point of `KernelIdeal`: the block it writes as a function of the row block, the decoded panel and the
  scales (`outBlock`), and the block's elements at the ideal values (`outBlock_apply`).
-/
module

public import proofs.«01_k».proof.Proof.Gen.KernelIdeal.Skeleton
public import Idealize.ShloMosaic.Lib.Bf16Pair
public import Idealize.ShloMosaic.Lib.MatmulPlain
public import Idealize.ShloMosaic.Lib.ValueIdxCore
public import Idealize.ShloMosaic.Lib.Pipeline.Value
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

section Blocks

variable {F : FTy → Type} [FloatOps F]

/-- A block of pair rows, as rows. -/
def unpair (a : Vec F S1x128x2x128 .bf16) : FVec F S256x128 .bf16 :=
  interleaveRows S256x128
    (shapeCast S128x128 (shapeCast S1x128x128 (rowsOfParity 0 S1x128x1x128 a bitcasts_S1x128x2x128_w16_S1x128x1x128_w32) shapeCasts_S1x128x1x128_S1x128x128) shapeCasts_S1x128x128_S128x128)
    (shapeCast S128x128 (shapeCast S1x128x128 (rowsOfParity 1 S1x128x1x128 a bitcasts_S1x128x2x128_w16_S1x128x1x128_w32) shapeCasts_S1x128x1x128_S1x128x128) shapeCasts_S1x128x128_S128x128)
    bitcasts_S256x128_w16_S128x128_w32

/-- One accumulation step: the product of a square of the row block with the weights of two lane tiles, added. -/
def mac (acc : FVec F S256x256 .f32) (x : Vec F S256x256 .bf16) (a b : Vec F S1x128x2x128 .bf16) : FVec F S256x256 .f32 :=
  addf acc (matmul dot_S256x256_S256x256_S256x256_1_0_0_1_n_n none (shapeCast S256x256 x shapeCasts_S256x256_S256x256)
    (concatenate S256x256 1 [⟨S256x128, unpair a⟩, ⟨S256x128, unpair b⟩] concatenates_S256x128_S256x128_S256x256_d1)
    (constant S256x256 .f32 0x00000000#32))

theorem x_inb (k : ℕ) (hk : k < 56) : ∀ a, (![0, 256 * k] : Fin 2 → ℕ) a + S256x256.size a ≤ S256x14336.size a
  | ⟨0, _⟩ => by show 0 + 256 ≤ 256; omega
  | ⟨1, _⟩ => by show 256 * k + 256 ≤ 14336; omega

theorem w_inb (L k : ℕ) (hL : L < 4) (hk : k < 56) : ∀ a, (![L, 128 * k, 0, 0] : Fin 4 → ℕ) a + S1x128x2x128.size a ≤ S4x7168x2x128.size a
  | ⟨0, _⟩ => by show L + 1 ≤ 4; omega
  | ⟨1, _⟩ => by show 128 * k + 128 ≤ 7168; omega
  | ⟨2, _⟩ => by show 0 + 2 ≤ 2; omega
  | ⟨3, _⟩ => by show 0 + 128 ≤ 128; omega

theorem s_inb (n : Fin 2) : ∀ a, (![0, 256 * n.val] : Fin 2 → ℕ) a + S1x256.size a ≤ S1x512.size a
  | ⟨0, _⟩ => by show 0 + 1 ≤ 1; omega
  | ⟨1, _⟩ => by show 256 * n.val + 256 ≤ 512; omega

/-- The accumulator after `k` steps, for the column half `n` of the block. -/
def tower (X : Vec F S256x14336 .bf16) (W : Vec F S4x7168x2x128 .bf16) (n : Fin 2) : (k : ℕ) → k ≤ 56 → FVec F S256x256 .f32
  | 0, _ => broadcast S256x256 (Scalar.ofBits (F := F) .f32 0x00000000#32)
  | k + 1, h => mac (tower X W n k (Nat.le_of_succ_le h)) (View.ld X (Rect.unit (s := S256x14336) ![0, 256 * k] S256x256.size (x_inb k h)))
      (View.ld W (Rect.unit (s := S4x7168x2x128) ![2 * n.val, 128 * k, 0, 0] S1x128x2x128.size (w_inb _ k (by omega) h)))
      (View.ld W (Rect.unit (s := S4x7168x2x128) ![2 * n.val + 1, 128 * k, 0, 0] S1x128x2x128.size (w_inb _ k (by omega) h)))

/-- The column half `n` of the block written. -/
def outTile (X : Vec F S256x14336 .bf16) (W : Vec F S4x7168x2x128 .bf16) (S : Vec F S1x512 .f32) (n : Fin 2) : FVec F S256x256 .bf16 :=
  k0_pay1 (tower X W n 56 (Nat.le_refl 56)) (k0_pay357 (View.ld S (Rect.unit (s := S1x512) ![0, 256 * n.val] S1x256.size (s_inb n))))

/-- The block written. -/
def outBlock (X : Vec F S256x14336 .bf16) (W : Vec F S4x7168x2x128 .bf16) (S : Vec F S1x512 .f32) : Vec F S256x512 .bf16 := fun y =>
  outTile X W S ⟨(y 1).val / 256, by have h : (y 1).val < 512 := (y 1).isLt; omega⟩ (ix2 (y 0) ⟨(y 1).val % 256, Nat.mod_lt _ (by decide)⟩)

/-- Unpaired rows, read. -/
theorem unpair_apply (a : Vec F S1x128x2x128 .bf16) (r : Fin 256) (l : Fin 128) (q : Fin 128) (p : Fin 2)
    (hr : r.val = 2 * q.val + p.val) : unpair a (ix2 r l) = a (ix4 0 q p l) := by
  have hp := p.isLt
  have hcast : ∀ P : Fin 2, P.val = p.val → ∀ j : S128x128.Idx, (j 0).val = q.val → (j 1).val = l.val →
      shapeCast S128x128 (shapeCast S1x128x128 (rowsOfParity P S1x128x1x128 a bitcasts_S1x128x2x128_w16_S1x128x1x128_w32) shapeCasts_S1x128x1x128_S1x128x128) shapeCasts_S1x128x128_S128x128 j
        = a (ix4 0 q p l) := by
    intro P hP j h0 h1
    rw [shapeCast_apply _ _ j (ix3 0 q l) (by
        rw [Shape.rowMajor_val_three, Shape.rowMajor_val_two]
        show (0 * 128 + q.val) * 128 + l.val = (j 0).val * 128 + (j 1).val; omega),
      shapeCast_apply _ _ _ (ix4 0 q 0 l) (by
        rw [Shape.rowMajor_val_three, Shape.rowMajor_val_four]
        show ((0 * 128 + q.val) * 1 + 0) * 128 + l.val = (0 * 128 + q.val) * 128 + l.val; omega)]
    unfold rowsOfParity
    congr 1
    funext b
    match b with
    | ⟨0, _⟩ => rfl
    | ⟨1, _⟩ => rfl
    | ⟨2, _⟩ => exact Fin.ext (by show 2 * 0 + P.val = p.val; omega)
    | ⟨3, _⟩ => rfl
  unfold unpair interleaveRows
  dsimp only
  have hrow : S256x128.row (ix2 r l) = r.val := rfl
  split
  · rename_i h
    rw [hrow] at h
    exact hcast 0 (by show 0 = p.val; omega) _ (by show r.val / 2 = q.val; omega) rfl
  · rename_i h
    rw [hrow] at h
    exact hcast 1 (by show 1 = p.val; omega) _ (by show r.val / 2 = q.val; omega) rfl

end Blocks

/-- An accumulation step at the ideal values. -/
theorem mac_apply (acc : FVec Ideal S256x256 .f32) (x : Vec Ideal S256x256 .bf16) (a b : Vec Ideal S1x128x2x128 .bf16) (r c : Fin 256)
    (W : Fin 256 → EReal) (hl : ∀ (h : c.val < 128) (k : Fin 256), a (ix4 0 ⟨k.val / 2, by omega⟩ ⟨k.val % 2, Nat.mod_lt _ (by decide)⟩ ⟨c.val, h⟩) = W k)
    (hr : ∀ (h : 128 ≤ c.val) (k : Fin 256), b (ix4 0 ⟨k.val / 2, by omega⟩ ⟨k.val % 2, Nat.mod_lt _ (by decide)⟩ ⟨c.val - 128, by omega⟩) = W k) :
    mac acc x a b (ix2 r c) = acc (ix2 r c) + ∑ k : Fin 256, x (ix2 r k) * W k := by
  unfold mac
  show acc (ix2 r c) + FloatOps.matmul (DotDims.plain 256 256 256) none _ _ _ (ix2 r c) = _
  rw [Ideal.matmul_plain_apply]
  show acc (ix2 r c) + (Ideal.ofBits .f32 0x00000000#32 + _) = _
  rw [Ideal.ofBits_zero_f32, zero_add]
  refine congrArg (acc (ix2 r c) + ·) (Finset.sum_congr rfl fun k _ => ?_)
  rw [shapeCast_apply _ _ _ (ix2 r k) rfl]
  congr 1
  by_cases h : c.val < 128
  · rw [← hl h k, ← unpair_apply a k ⟨c.val, h⟩ ⟨k.val / 2, by omega⟩ ⟨k.val % 2, Nat.mod_lt _ (by decide)⟩ (by show k.val = 2 * (k.val / 2) + k.val % 2; omega)]
    refine concatenate_pair_apply_left (t := S256x256) (s₁ := S256x128) (s₂ := S256x128) 1 (unpair a) (unpair b)
      concatenates_S256x128_S256x128_S256x256_d1 (ix2 k c) rfl (ix2 k ⟨c.val, h⟩) ?_
    intro b; match b with
    | ⟨0, _⟩ => rfl
    | ⟨1, _⟩ => rfl
  · rw [← hr (by omega) k, ← unpair_apply b k ⟨c.val - 128, by omega⟩ ⟨k.val / 2, by omega⟩ ⟨k.val % 2, Nat.mod_lt _ (by decide)⟩ (by show k.val = 2 * (k.val / 2) + k.val % 2; omega)]
    refine concatenate_pair_apply_right (t := S256x256) (s₁ := S256x128) (s₂ := S256x128) 1 (unpair a) (unpair b)
      concatenates_S256x128_S256x128_S256x256_d1 (ix2 k c) rfl rfl (ix2 k ⟨c.val - 128, by omega⟩) ?_ ?_
    · intro b hb; match b with
      | ⟨0, _⟩ => rfl
      | ⟨1, _⟩ => exact absurd rfl hb
    · show c.val - 128 + 128 = c.val; omega

/-- The accumulator at the ideal values: the sum of the products so far. -/
theorem tower_apply (X : Vec Ideal S256x14336 .bf16) (W : Vec Ideal S4x7168x2x128 .bf16) (n : Fin 2) (r c : Fin 256) :
    ∀ (m : ℕ) (h : m ≤ 56), tower X W n m h (ix2 r c) = ∑ k : Fin m, ∑ e : Fin 256,
      X (ix2 r ⟨256 * k.val + e.val, by omega⟩)
        * W (ix4 ⟨2 * n.val + c.val / 128, by omega⟩ ⟨128 * k.val + e.val / 2, by omega⟩ ⟨e.val % 2, Nat.mod_lt _ (by decide)⟩ ⟨c.val % 128, Nat.mod_lt _ (by decide)⟩)
  | 0, _ => by
    show Ideal.ofBits .f32 0x00000000#32 = _
    rw [Ideal.ofBits_zero_f32]; rfl
  | m + 1, h => by
    unfold tower
    rw [mac_apply _ _ _ _ r c (fun e => W (ix4 ⟨2 * n.val + c.val / 128, by omega⟩ ⟨128 * m + e.val / 2, by omega⟩ ⟨e.val % 2, Nat.mod_lt _ (by decide)⟩ ⟨c.val % 128, Nat.mod_lt _ (by decide)⟩)),
      tower_apply X W n r c m (Nat.le_of_succ_le h)]
    · refine Eq.trans ?_ (Fin.sum_univ_castSucc (n := m) _).symm
      refine congrArg₂ (fun u v : EReal => u + v) rfl (Finset.sum_congr rfl fun e _ => congrArg₂ (fun u v : EReal => u * v) ?_ rfl)
      unfold View.ld
      congr 1
      funext a
      match a with
      | ⟨0, _⟩ => exact Fin.ext (by show 0 + 1 * r.val = r.val; omega)
      | ⟨1, _⟩ => exact Fin.ext (by show 256 * m + 1 * e.val = 256 * m + e.val; omega)
    · intro hc e
      unfold View.ld
      congr 1
      funext a
      match a with
      | ⟨0, _⟩ => exact Fin.ext (by show 2 * n.val + 1 * 0 = 2 * n.val + c.val / 128; omega)
      | ⟨1, _⟩ => exact Fin.ext (by show 128 * m + 1 * (e.val / 2) = 128 * m + e.val / 2; omega)
      | ⟨2, _⟩ => exact Fin.ext (by show 0 + 1 * (e.val % 2) = e.val % 2; omega)
      | ⟨3, _⟩ => exact Fin.ext (by show 0 + 1 * c.val = c.val % 128; omega)
    · intro hc e
      unfold View.ld
      congr 1
      funext a
      match a with
      | ⟨0, _⟩ => exact Fin.ext (by show 2 * n.val + 1 + 1 * 0 = 2 * n.val + c.val / 128; omega)
      | ⟨1, _⟩ => exact Fin.ext (by show 128 * m + 1 * (e.val / 2) = 128 * m + e.val / 2; omega)
      | ⟨2, _⟩ => exact Fin.ext (by show 0 + 1 * (e.val % 2) = e.val % 2; omega)
      | ⟨3, _⟩ => exact Fin.ext (by show 0 + 1 * (c.val - 128) = c.val % 128; omega)

/-- The block written, at the ideal values: at row `r`, column `j`, the product of the row with the column of the decoded panel,
    times the column's scale. -/
theorem outBlock_apply (X : Vec Ideal S256x14336 .bf16) (W : Vec Ideal S4x7168x2x128 .bf16) (S : Vec Ideal S1x512 .f32) (r : Fin 256) (j : Fin 512) :
    outBlock X W S (ix2 r j) = (∑ k : Fin 56, ∑ e : Fin 256,
      X (ix2 r ⟨256 * k.val + e.val, by omega⟩)
        * W (ix4 ⟨j.val / 128, by omega⟩ ⟨128 * k.val + e.val / 2, by omega⟩ ⟨e.val % 2, Nat.mod_lt _ (by decide)⟩ ⟨j.val % 128, Nat.mod_lt _ (by decide)⟩))
      * S (ix2 0 j) := by
  unfold outBlock outTile k0_pay1
  show tower X W ⟨j.val / 256, _⟩ 56 _ (ix2 r ⟨j.val % 256, _⟩) * k0_pay357 _ (ix2 r ⟨j.val % 256, _⟩) = _
  rw [tower_apply]
  refine congrArg₂ (fun u v : EReal => u * v) (Finset.sum_congr rfl fun k _ => Finset.sum_congr rfl fun e _ => congrArg₂ (fun u v : EReal => u * v) rfl ?_) ?_
  · congr 1
    funext a
    match a with
    | ⟨0, _⟩ => exact Fin.ext (by show 2 * (j.val / 256) + j.val % 256 / 128 = j.val / 128; omega)
    | ⟨1, _⟩ => rfl
    | ⟨2, _⟩ => rfl
    | ⟨3, _⟩ => exact Fin.ext (by show j.val % 256 % 128 = j.val % 128; omega)
  · unfold k0_pay357
    dsimp only
    refine (broadcastTo_apply _ _ _ (ix2 0 ⟨j.val % 256, Nat.mod_lt _ (by decide)⟩) ?_).trans ((shapeCast_apply _ _ _ (ix2 0 ⟨j.val % 256, Nat.mod_lt _ (by decide)⟩) rfl).trans ?_)
    · intro b; match b with
      | ⟨0, _⟩ => rfl
      | ⟨1, _⟩ => rfl
    · unfold View.ld
      congr 1
      funext a
      match a with
      | ⟨0, _⟩ => rfl
      | ⟨1, _⟩ => exact Fin.ext (by show 256 * (j.val / 256) + 1 * (j.val % 256) = j.val; omega)

end Cert.KernelIdeal.Hand

end
-- ==== Proof.KernelIdealPoint.lean ====
/-
  One grid point of `KernelIdeal`, with the contents: a point that decodes leaves the scratch at the decoded panel (`kernelVal_A`), a point
  that does not keeps the scratch (`kernelVal_B`), and both write the block the matmul of the row block with the scratch makes.
-/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdealTrip
public import proofs.«01_k».proof.Proof.KernelIdealMatmul

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The panel a decoding point leaves in the scratch, from the word table and the panel's codes. -/
def panel (x3 : Vec F S8x128 .i32) (x2 : Vec F S2x1792x512 .i8) : Vec F S4x7168x2x128 .bf16 :=
  scratch ![View.ld x3 (Rect.unit (s := S8x128) ![0, 0] S1x128.size inb_S8x128_S1x128_0_0), View.ld x3 (Rect.unit (s := S8x128) ![1, 0] S1x128.size inb_S8x128_S1x128_1_0), View.ld x3 (Rect.unit (s := S8x128) ![2, 0] S1x128.size inb_S8x128_S1x128_2_0), View.ld x3 (Rect.unit (s := S8x128) ![3, 0] S1x128.size inb_S8x128_S1x128_3_0), View.ld x3 (Rect.unit (s := S8x128) ![4, 0] S1x128.size inb_S8x128_S1x128_4_0), View.ld x3 (Rect.unit (s := S8x128) ![5, 0] S1x128.size inb_S8x128_S1x128_5_0), View.ld x3 (Rect.unit (s := S8x128) ![6, 0] S1x128.size inb_S8x128_S1x128_6_0), View.ld x3 (Rect.unit (s := S8x128) ![7, 0] S1x128.size inb_S8x128_S1x128_7_0)] x2

/-- The two stores of a point leave the block in the result's buffer. -/
theorem read_outBlock (v : View sig .tc .vmem S256x512 .bf16) (f : v.ty.Contents (Elt F)) (X : Vec F S256x14336 .bf16)
    (W : Vec F S4x7168x2x128 .bf16) (S : Vec F S1x512 .f32) (L : List (View.Piece (Elt F) S256x512 .bf16))
    (hL : L = [⟨Rect.unit (s := S256x512) ![0, 256] S256x256.size inb_S256x512_S256x256_0_256, outTile X W S 1⟩,
      ⟨Rect.unit (s := S256x512) ![0, 0] S256x256.size inb_S256x512_S256x256_0_0, outTile X W S 0⟩]) :
    v.read (Elt F) (v.writes (Elt F) f L) = outBlock X W S := by
  subst hL
  funext y
  have h0 : (y 0).val < 256 := (y 0).isLt
  have h1 : (y 1).val < 512 := (y 1).isLt
  have hagree : ∀ (n : Fin 2) (off : Fin 2 → ℕ) (inb : ∀ a, off a + S256x256.size a ≤ S256x512.size a), off = ![0, 256 * n.val] →
      ∀ x : S256x256.Idx, outTile X W S n x = outBlock X W S ((Rect.unit (s := S256x512) off S256x256.size inb).emb x) := by
    intro n off inb hoff x
    subst hoff
    have x0 : (x 0).val < 256 := (x 0).isLt
    have x1 : (x 1).val < 256 := (x 1).isLt
    unfold outBlock
    have e1 : (((Rect.unit (s := S256x512) ![0, 256 * n.val] S256x256.size inb).emb x) 1).val = 256 * n.val + 1 * (x 1).val := rfl
    have e0 : (((Rect.unit (s := S256x512) ![0, 256 * n.val] S256x256.size inb).emb x) 0).val = 0 + 1 * (x 0).val := rfl
    generalize (Rect.unit (s := S256x512) ![0, 256 * n.val] S256x256.size inb).emb x = z at e0 e1 ⊢
    have en : (⟨(z 1).val / 256, by have h : (z 1).val < 512 := (z 1).isLt; omega⟩ : Fin 2) = n := Fin.ext (by show (z 1).val / 256 = n.val; omega)
    rw [en]
    congr 1
    funext a
    match a with
    | ⟨0, _⟩ => exact Fin.ext (by show (x 0).val = (z 0).val; omega)
    | ⟨1, _⟩ => exact Fin.ext (by show (x 1).val = (z 1).val % 256; omega)
  refine read_writes_agree f (outBlock X W S) y _ ?_ (Or.inr ?_)
  · intro p hp
    simp only [List.mem_cons, List.not_mem_nil, or_false] at hp
    rcases hp with rfl | rfl
    · exact hagree 1 _ inb_S256x512_S256x256_0_256 rfl
    · exact hagree 0 _ inb_S256x512_S256x256_0_0 rfl
  · by_cases h : (y 1).val < 256
    · refine ⟨_, List.mem_cons_of_mem _ List.mem_cons_self, (LoadRect.mem_set _).mpr fun a => ?_⟩
      match a with
      | ⟨0, _⟩ => exact ⟨(y 0).val, h0, by show (y 0).val = 0 + 1 * (y 0).val; omega⟩
      | ⟨1, _⟩ => exact ⟨(y 1).val, h, by show (y 1).val = 0 + 1 * (y 1).val; omega⟩
    · refine ⟨_, List.mem_cons_self, (LoadRect.mem_set _).mpr fun a => ?_⟩
      match a with
      | ⟨0, _⟩ => exact ⟨(y 0).val, h0, by show (y 0).val = 0 + 1 * (y 0).val; omega⟩
      | ⟨1, _⟩ => exact ⟨(y 1).val - 256, by show (y 1).val - 256 < 256; omega, by show (y 1).val = 256 + 1 * ((y 1).val - 256); omega⟩

set_option maxHeartbeats 4000000 in
/-- The body at a point that decodes: the inputs stay as they were, the scratch holds the panel, the result its block. -/
theorem kernelVal_A (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x2x128 .bf16) (harg7 : arg7.IsWhole) (hc0 : k0_cond1 i = 1#1)
    (x2 : Vec F S2x1792x512 .i8) (x3 : Vec F S8x128 .i32) (x4 : Vec F S256x14336 .bf16) (x5 : Vec F S1x512 .f32) :
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outBlock x4 (panel x3 x2) x5) ∗ owns (c : Thread nD τ) arg7 fullShare (panel x3 x2)) -∗ K ⟨⟩))
          ⊢ wp frame (wpE (defs₀ (F := F)) Variants.none c none) Set.univ (cc0_aqlm_linear i arg2 harg2 arg3 harg3 arg4 harg4 arg5 harg5 arg6 harg6 arg7 harg7) K := by
    intro K
    rw [cc0_aqlm_linear_eq_skeleton]; unfold cc0_aqlm_linear_skel
    unfold owns
    iintro ⟨⟨%f2, %h2, H2⟩, ⟨%f3, %h3, H3⟩, ⟨%f4, %h4, H4⟩, ⟨%f5, %h5, H5⟩, ⟨%d6, %f6, -, H6⟩, ⟨%d7, %f7, -, H7⟩, Hk⟩
    sl_exec_parts (disch := first | sl_exact hc0)
    sl_step
    iapply Hk
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    have hP : arg7.view.read (Elt F) f7L0 = panel x3 x2 := by
      subst h2 h3
      exact funext fun y => hL1 y (by have h : (y 1).val < 7168 := (y 1).isLt; show (y 1).val < 128 * k0_t1_loop.trips; rw [trips_eq]; omega)
    isplitl [H6]
    · iexists _; isplitr; swap; · iexact H6
      ipureintro
      rw [← hP]
      subst h4 h5
      exact read_outBlock arg6.view f6 _ _ _ _ rfl
    iexists _; isplitr; swap; · iexact H7
    ipureintro; exact hP

set_option maxHeartbeats 4000000 in
/-- The body at a point that does not decode: the inputs and the scratch stay as they were, the result holds its block. -/
theorem kernelVal_B (c : Dev nD) (i : grid0.Coords) (arg2 : Memref sig .tc .vmem S2x1792x512 .i8) (harg2 : arg2.IsWhole) (arg3 : Memref sig .tc .vmem S8x128 .i32) (harg3 : arg3.IsWhole) (arg4 : Memref sig .tc .vmem S256x14336 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x7168x2x128 .bf16) (harg7 : arg7.IsWhole) (hc0 : ¬ k0_cond1 i = 1#1)
    (x2 : Vec F S2x1792x512 .i8) (x3 : Vec F S8x128 .i32) (x4 : Vec F S256x14336 .bf16) (x5 : Vec F S1x512 .f32) (W : Vec F S4x7168x2x128 .bf16) :
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare W
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outBlock x4 W x5) ∗ owns (c : Thread nD τ) arg7 fullShare W) -∗ K ⟨⟩))
          ⊢ wp frame (wpE (defs₀ (F := F)) Variants.none c none) Set.univ (cc0_aqlm_linear i arg2 harg2 arg3 harg3 arg4 harg4 arg5 harg5 arg6 harg6 arg7 harg7) K := by
    intro K
    rw [cc0_aqlm_linear_eq_skeleton]; unfold cc0_aqlm_linear_skel
    unfold owns
    iintro ⟨⟨%f2, %h2, H2⟩, ⟨%f3, %h3, H3⟩, ⟨%f4, %h4, H4⟩, ⟨%f5, %h5, H5⟩, ⟨%d6, %f6, -, H6⟩, ⟨%f7, %h7, H7⟩, Hk⟩
    sl_exec_parts (disch := first | sl_exact hc0)
    sl_step
    iapply Hk
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; swap; · iexact H6
      ipureintro
      rw [← h7]
      subst h4 h5
      exact read_outBlock arg6.view f6 _ _ _ _ rfl
    iexists _; isplitr; swap; · iexact H7
    ipureintro; exact h7

end Cert.KernelIdeal.Hand

end
-- ==== Proof.KernelIdealLaunch.lean ====
/-
  The launch of `KernelIdeal` with the contents. The input blocks at a grid point are named at coordinates of the arrays; the panel decoded
  at the first row block of a column panel is what the scratch holds at every later row block of it (`Phi`); the run ends with the
  result's window array at the blocks the points write and the counters at zero (`run_main_quiescent`).
-/
module

public import proofs.«01_k».proof.Proof.KernelIdealPoint
public import Idealize.ShloMosaic.Lib.Pipeline.ValueKit.Geometry

@[expose] public section

set_option maxRecDepth 4096

noncomputable section

namespace Cert.KernelIdeal.Val

open Cert.KernelIdeal Cert.KernelIdeal.Gen Cert.KernelIdeal.Hand
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks at coordinates -/

theorem index0 : ∀ t : Fin cfg0.N, win0_0.index t = ![0, 0, t.val / 27] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 27, 0] := (by decide +kernel : ∀ t : Fin grid0.N, _)
theorem index3 : ∀ t : Fin cfg0.N, win0_3.index t = ![0, t.val / 27] := (by decide +kernel : ∀ t : Fin grid0.N, _)
theorem index4 : ∀ t : Fin cfg0.N, win0_4.index t = ![t.val % 27, t.val / 27] := (by decide +kernel : ∀ t : Fin grid0.N, _)

/-- The point decodes exactly when it is the first row block of its panel. -/
theorem cond_iff : ∀ t : Fin cfg0.N, k0_cond1 (grid0.coords t) = 1#1 ↔ t.val % 27 = 0 := (by decide +kernel : ∀ t : Fin grid0.N, _)

theorem lt216 (t : Fin cfg0.N) : t.val < 216 := lt_of_lt_of_eq t.isLt N_0

/-- The codes' block: the panel's columns of the transposed codes. -/
theorem iblk0_apply (c : Dev nD) (t : Fin cfg0.N) (b : Fin 2) (g : Fin 1792) (j : Fin 512) :
    (iblk m c 0 t : Vec F S2x1792x512 .i8) (ix3 b g j)
      = (V m c main_v0 : Vec F S2x1792x4096 .i8) (ix3 b g ⟨512 * (t.val / 27) + j.val, by have := lt216 t; omega⟩) := by
  blk_simp [iblk]
  refine congrArg _ ?_
  funext a
  apply Fin.ext
  match a with
  | ⟨0, _⟩ => blk_simp [index0]
  | ⟨1, _⟩ => blk_simp [index0]
  | ⟨2, _⟩ => blk_simp [index0]; show t.val / 27 * 512 + j.val = 512 * (t.val / 27) + j.val; omega

/-- The tables' block: all of them. -/
theorem iblk1_apply (c : Dev nD) (t : Fin cfg0.N) (r : Fin 8) (l : Fin 128) :
    (iblk m c 1 t : Vec F S8x128 .i32) (ix2 r l) = (V m c main_v5 : Vec F S8x128 .i32) (ix2 r l) := by
  blk_simp [iblk]
  refine congrArg _ ?_
  funext a
  apply Fin.ext
  match a with
  | ⟨0, _⟩ => blk_simp [index1]
  | ⟨1, _⟩ => blk_simp [index1]

/-- The inputs' block: 256 rows of them. -/
theorem iblk2_apply (c : Dev nD) (t : Fin cfg0.N) (r : Fin 256) (K : Fin 14336) :
    (iblk m c 2 t : Vec F S256x14336 .bf16) (ix2 r K)
      = (V m c main_v6 : Vec F S6912x14336 .bf16) (ix2 ⟨256 * (t.val % 27) + r.val, by have := lt216 t; omega⟩ K) := by
  blk_simp [iblk]
  refine congrArg _ ?_
  funext a
  apply Fin.ext
  match a with
  | ⟨0, _⟩ => blk_simp [index2]; show t.val % 27 * 256 + r.val = 256 * (t.val % 27) + r.val; omega
  | ⟨1, _⟩ => blk_simp [index2]

/-- The scales' block: the panel's columns of them. -/
theorem iblk3_apply (c : Dev nD) (t : Fin cfg0.N) (j : Fin 512) :
    (iblk m c 3 t : Vec F S1x512 .f32) (ix2 (0 : Fin 1) j)
      = (V m c main_v7 : Vec F S1x4096 .f32) (ix2 (0 : Fin 1) ⟨512 * (t.val / 27) + j.val, by have := lt216 t; omega⟩) := by
  blk_simp [iblk]
  refine congrArg _ ?_
  funext a
  apply Fin.ext
  match a with
  | ⟨0, _⟩ => blk_simp [index3]
  | ⟨1, _⟩ => blk_simp [index3]; show t.val / 27 * 512 + j.val = 512 * (t.val / 27) + j.val; omega

/-! ## The proof data -/

/-- The decoded panel of the point's column panel. -/
def Wt (c : Dev nD) (t : Fin cfg0.N) : Vec F S4x7168x2x128 .bf16 := panel (iblk m c 1 t) (iblk m c 0 t)

/-- Two points of one column panel have the same decoded panel. -/
theorem Wt_congr (c : Dev nD) (t t' : Fin cfg0.N) (h : t.val / 27 = t'.val / 27) : Wt m c t = Wt m c t' := by
  unfold Wt
  have h1 : (iblk m c 1 t : Vec F S8x128 .i32) = iblk m c 1 t' := by
    funext x
    obtain ⟨r, l, rfl⟩ : ∃ (r : Fin 8) (l : Fin 128), x = ix2 r l := ⟨x 0, x 1, by funext a; fin_cases a <;> rfl⟩
    rw [iblk1_apply, iblk1_apply]
  have h0 : (iblk m c 0 t : Vec F S2x1792x512 .i8) = iblk m c 0 t' := by
    funext x
    obtain ⟨b, g, j, rfl⟩ : ∃ (b : Fin 2) (g : Fin 1792) (j : Fin 512), x = ix3 b g j := ⟨x 0, x 1, x 2, by funext a; fin_cases a <;> rfl⟩
    rw [iblk0_apply, iblk0_apply]
    simp only [h]
  rw [h1, h0]

/-- The scratch operand. -/
abbrev scM : Memref sig .tc .vmem S4x7168x2x128 .bf16 := Memref.whole cc0_scratch0

/-- What holds between two points: before a panel's first row block the scratch is at any contents, later at the panel decoded. -/
def Phi (c : Dev nD) (t : Fin (cfg0.N + 1)) : sProp 𝕄 :=
  if t.val % 27 = 0 then Pipeline.ΦA spec0 c
  else iprop(owns (c : Thread nD τ) scM fullShare (Wt m c ⟨t.val - 1, by have h : cfg0.N = 216 := N_0; have := t.isLt; omega⟩) ∗ (∃ r, prngReg c r))

/-- The proof data of the pipeline: inputs at their blocks, the result's block at the row block times the decoded panel. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 2 t) (Wt m c t) (iblk m c 3 t)
  Φ := Phi m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 2 t) (Wt m c t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch at the decoded panel, after the point, is what holds before the next. -/
theorem Phi_succ (c : Dev nD) (t : Fin cfg0.N) :
    iprop(owns (c : Thread nD τ) scM fullShare (Wt m c t) ∗ (∃ r, prngReg c r)) ⊢ (Phi m c t.succ : sProp 𝕄) := by
  unfold Phi
  split_ifs with h
  · rw [PhiA0_eq]
    iintro ⟨H, Hg⟩
    isplitl [H]; · iexists _; iexact H
    iexact Hg
  · exact .rfl

/-- Before a panel's first row block. -/
theorem Phi_first (c : Dev nD) (t : Fin cfg0.N) (h : t.val % 27 = 0) :
    (Phi m c t.castSucc : sProp 𝕄) = iprop(iprop((∃ d, owns (c : Thread nD τ) scM fullShare d)) ∗ (∃ r, prngReg c r)) := by
  unfold Phi
  rw [if_pos (by exact h), PhiA0_eq]

/-- Before a later row block. -/
theorem Phi_later (c : Dev nD) (t : Fin cfg0.N) (h : ¬ t.val % 27 = 0) :
    (Phi m c t.castSucc : sProp 𝕄) = iprop(owns (c : Thread nD τ) scM fullShare (Wt m c t) ∗ (∃ r, prngReg c r)) := by
  unfold Phi
  rw [if_neg (by exact h), Wt_congr m c _ t (show (t.val - 1) / 27 = t.val / 27 by omega)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at any point, by whether the point decodes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = Phi m c t.castSucc from rfl, show (dats m 0 c).Φ t.succ = Phi m c t.succ from rfl]
  by_cases h0 : t.val % 27 = 0
  · have hc := (cond_iff t).mpr h0
    rw [Phi_first m c t h0]
    iintro ⟨⟨HS0, Hg⟩, Ho, ⟨%d0, H0⟩, ⟨%d1, H1⟩, ⟨%d2, H2⟩, ⟨%d3, H3⟩, ⟨%d4, H4⟩⟩
    iapply ((kernelVal_A c (grid0.coords t) _ _ _ _ _ _ _ _ _ _ _ _ hc (iblk m c 0 t) (iblk m c 1 t) (iblk m c 2 t) (iblk m c 3 t)) _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    iexact H4
  · have hc := fun h => h0 ((cond_iff t).mp h)
    rw [Phi_later m c t h0]
    iintro ⟨⟨HS0, Hg⟩, Ho, ⟨%d0, H0⟩, ⟨%d1, H1⟩, ⟨%d2, H2⟩, ⟨%d3, H3⟩, ⟨%d4, H4⟩⟩
    iapply ((kernelVal_B c (grid0.coords t) _ _ _ _ _ _ _ _ _ _ _ _ hc (iblk m c 0 t) (iblk m c 1 t) (iblk m c 2 t) (iblk m c 3 t) (Wt m c t)) _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution of @main ends with the window arrays at what the points write, every other array at what the host leaves in
    it, and the counters at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by show _ ⊢ Phi m c 0; unfold Phi; rw [if_pos (by rfl)])
    (hout := fun c => by show Phi m c (Fin.last cfg0.N) ⊢ _; unfold Phi; rw [if_pos (show (Fin.last cfg0.N).val % 27 = 0 by rw [Fin.val_last, show cfg0.N = 216 from N_0])])

end Cert.KernelIdeal.Val

end
-- ==== Proof.KernelIdealRun.lean ====
/-
  The run of `KernelIdeal`: what the host leaves in the four arrays the kernel reads, what the result's array holds after the last point,
  and what the reshaped result therefore is. The frame claim is read off the same run.
-/
module

public import proofs.«01_k».proof.Proof.KernelIdealLaunch
public import Idealize.ShloMosaic.Lib.StableHlo.Run
public import Idealize.ShloMosaic.Lib.Pipeline.FrameSuffix

@[expose] public section

set_option maxRecDepth 4096

noncomputable section

namespace Cert.KernelIdeal.Val

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

variable {F : FTy → Type} [FloatOps F]

variable (m : (ℓ : Loc nD τ sig) → Buf (Elt F) ℓ) (ρ : Dev nD → PrngReg)

/-! ## What the host leaves in the arrays the kernel reads -/

/-- The codes' array: the codes transposed. -/
theorem V_main_v0 (c : Dev nD) : V m c main_v0
    = transpose S2x1792x4096 [2, 1, 0] (m ((c : Thread nD τ).loc main_arg1)) transposes_S4096x1792x2_S2x1792x4096_2_1_0 := by
  unfold V V0
  simp only [hostOps0, List.flatten_cons, List.flatten_nil, List.append_nil, List.cons_append, List.nil_append]
  after_results_simp <;> rfl

/-- The tables' array: the codebooks' bytes regrouped and packed in words. -/
theorem V_main_v5 (c : Dev nD) : V m c main_v5
    = shapeCast S8x128 (Host.bitcastConvertWiden S2x2x256 32 (shapeCast S2x2x256x4
        (transpose S2x2x256x2x2 [0, 3, 1, 2, 4] (shapeCast S2x256x2x2x2 (m ((c : Thread nD τ).loc main_arg2)) shapeCasts_S2x256x8_S2x256x2x2x2)
          transposes_S2x256x2x2x2_S2x2x256x2x2_0_3_1_2_4)
        shapeCasts_S2x2x256x2x2_S2x2x256x4) splits_S2x2x256_w32_S2x2x256x4_w8) shapeCasts_S2x2x256_S8x128 := by
  unfold V V0
  simp only [hostOps0, List.flatten_cons, List.flatten_nil, List.append_nil, List.cons_append, List.nil_append]
  after_results_simp <;> rfl

/-- The inputs' array: the batches' rows one after the other. -/
theorem V_main_v6 (c : Dev nD) : V m c main_v6
    = shapeCast S6912x14336 (m ((c : Thread nD τ).loc main_arg0)) shapeCasts_S9x768x14336_S6912x14336 := by
  unfold V V0
  simp only [hostOps0, List.flatten_cons, List.flatten_nil, List.append_nil, List.cons_append, List.nil_append]
  after_results_simp <;> rfl

/-- The scales' array: one row. -/
theorem V_main_v7 (c : Dev nD) : V m c main_v7
    = shapeCast S1x4096 (m ((c : Thread nD τ).loc main_arg3)) shapeCasts_S4096_S1x4096 := by
  unfold V V0
  simp only [hostOps0, List.flatten_cons, List.flatten_nil, List.append_nil, List.cons_append, List.nil_append]
  after_results_simp <;> rfl

/-! ## The result -/

/-- The point that writes the result's element `(M, J)`. -/
def pt (M : Fin 6912) (J : Fin 4096) : Fin cfg0.N :=
  ⟨27 * (J.val / 512) + M.val / 256, by have h : cfg0.N = 216 := N_0; omega⟩

/-- The result's array before its reshape, every element read off the block the point writes that contains it. -/
def G (c : Dev nD) : Vec F S6912x4096 .bf16 := fun i =>
  outBlock (iblk m c 2 (pt (i 0) (i 1))) (Wt m c (pt (i 0) (i 1))) (iblk m c 3 (pt (i 0) (i 1)))
    (ix2 ⟨(i 0).val % 256, Nat.mod_lt _ (by decide)⟩ ⟨(i 1).val % 512, Nat.mod_lt _ (by decide)⟩)

/-- The array at the element `(r, j)` of the block of a point. -/
theorem G_block (c : Dev nD) (t : Fin cfg0.N) (r : Fin 256) (j : Fin 512) (i : S6912x4096.Idx)
    (h0 : (i 0).val = t.val % 27 * 256 + r.val) (h1 : (i 1).val = t.val / 27 * 512 + j.val) :
    G m c i = outBlock (iblk m c 2 t) (Wt m c t) (iblk m c 3 t) (ix2 r j) := by
  have e : pt (i 0) (i 1) = t := by
    apply Fin.ext
    show 27 * ((i 1).val / 512) + (i 0).val / 256 = t.val
    omega
  unfold G
  rw [e]
  congr 1
  congr 1
  · apply Fin.ext; show (i 0).val % 256 = r.val; omega
  · apply Fin.ext; show (i 1).val % 512 = j.val; omega

/-- After the last point the result's array is `G`. -/
theorem final8 (c : Dev nD) : (dats m 0 c).arrAt 4 cfg0.N = G m c := by
  refine (dats m 0 c).arrAt_eq_of_covers 4 _ (by decide +kernel) fun t hf y => ?_
  blk_simp
  rw [after0_4]
  obtain ⟨r, j, rfl⟩ : ∃ (r : Fin 256) (j : Fin 512), y = ix2 r j := ⟨y 0, y 1, by funext a; match a with | ⟨0, _⟩ => rfl | ⟨1, _⟩ => rfl⟩
  refine (G_block m c t r j _ ?_ ?_).symm
  · blk_simp [index4]
  · blk_simp [index4]

/-- The contents of the buffers when the kernel is left. -/
abbrev exitV (c : Dev nD) : Valuation τ sig (Elt F) :=
  Pipeline.withArrays spec0 c (V0 m c) fun w => (dats m 0 c).arrAt w cfg0.N

theorem exit_main_v8 (c : Dev nD) : exitV m c (Proc.devRef .tc main_v8) = G m c :=
  (Pipeline.withArrays_arr spec0 launch0.win.arr_inj c (V0 m c) _ 4).trans (final8 m c)

theorem tail_main_v9 (W : Valuation τ sig (Elt F)) :
    after (List.flatten [hostOps1]) W (Proc.devRef .tc main_v9)
      = shapeCast S9x768x4096 (W (Proc.devRef .tc main_v8)) shapeCasts_S6912x4096_S9x768x4096 := by
  simp only [hostOps1, List.flatten_cons, List.flatten_nil, List.append_nil, List.cons_append, List.nil_append]
  after_results_simp <;> rfl

/-- The reshaped result. -/
theorem fin_main_v9 (c : Dev nD) :
    Pipeline.afterTail₀ cfgs (dats m) 0 (V0 m) [hostOps1] c main_v9
      = shapeCast S9x768x4096 (G m c) shapeCasts_S6912x4096_S9x768x4096 :=
  (tail_main_v9 (exitV m c)).trans (by rw [exit_main_v8])

/-- Every execution ends with the result at the reshaped `G` and the arguments unchanged. -/
theorem run : θ_run defs (onTc (τ := τ) (main (F := F))) ⟨m, fun _ => 0, ρ⟩ fun r => ∀ c : Dev nD,
      r.2.mem ((c.tc : Thread nD τ).loc main_v9) = shapeCast S9x768x4096 (G m c) shapeCasts_S6912x4096_S9x768x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).2 main_v9 (Pipeline.mem_restRefs_of main_v9 (by decide) (by decide))).trans (fin_main_v9 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩)
    (run_main_quiescent m ρ)

/-- `KernelIdeal`'s frame: every execution ends, the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩)
    (run_main_quiescent m ρ)

end Cert.KernelIdeal.Val

end
-- ==== Proof.Weight.lean ====
/-
  The problem's mathematics at exact real numbers: the decoded weight and the scaled product. Both programs are shown to compute this.
-/
module

public import Idealize.ShloMosaic.PureOps.Ideal
public import Idealize.ShloMosaic.Lib.ValueIdxCore

@[expose] public section

noncomputable section

namespace Cert.Weight

open Idealize.ShloMosaic Idealize.ShloMosaic.ValueIdx

/-- The number an fp8 byte stands for. -/
def fp8 (w : BitVec 8) : EReal := (FloatOps.ofBits .fp8e4m3 w : Ideal .fp8e4m3)

/-- What book `b` gives to row `K` of output column `J`: element `K % 8` of the entry that the code of group `K / 8` selects. -/
def entry (A1 : (⟨3, ![4096, 1792, 2]⟩ : Shape).Idx → BitVec 8) (A2 : (⟨3, ![2, 256, 8]⟩ : Shape).Idx → BitVec 8)
    (b : Fin 2) (J : Fin 4096) (K : Fin 14336) : EReal :=
  fp8 (A2 (ix3 b ⟨(A1 (ix3 J ⟨K.val / 8, by omega⟩ b)).toNat, (A1 (ix3 J ⟨K.val / 8, by omega⟩ b)).isLt⟩ ⟨K.val % 8, Nat.mod_lt _ (by decide)⟩))

/-- The decoded weight: the two books' entries added. -/
def weight (A1 : (⟨3, ![4096, 1792, 2]⟩ : Shape).Idx → BitVec 8) (A2 : (⟨3, ![2, 256, 8]⟩ : Shape).Idx → BitVec 8)
    (J : Fin 4096) (K : Fin 14336) : EReal := entry A1 A2 0 J K + entry A1 A2 1 J K

/-- The result: inputs times decoded weights, each column scaled. -/
def value (A0 : (⟨3, ![9, 768, 14336]⟩ : Shape).Idx → EReal) (A1 : (⟨3, ![4096, 1792, 2]⟩ : Shape).Idx → BitVec 8)
    (A2 : (⟨3, ![2, 256, 8]⟩ : Shape).Idx → BitVec 8) (A3 : (⟨1, ![4096]⟩ : Shape).Idx → EReal) :
    (⟨3, ![9, 768, 4096]⟩ : Shape).Idx → EReal := fun i =>
  (∑ K : Fin 14336, A0 (ix3 (i 0) (i 1) K) * weight A1 A2 (i 2) K) * A3 (ix1 (i 2))

end Cert.Weight

end
-- ==== Proof.KernelIdealValue.lean ====
/-
  What `KernelIdeal` computes, at exact real numbers: the arrays the kernel reads at coordinates of the arguments, the decoded panel as
  the decoded weights (`Wt_apply`), and the result as the scaled product (`result_eq`).
-/
module

public import proofs.«01_k».proof.Proof.KernelIdealRun
public import proofs.«01_k».proof.Proof.Weight
public import Idealize.ShloMosaic.Lib.BitcastConvert
public import Idealize.ShloMosaic.Lib.Pipeline.Value
public import Idealize.ShloMosaic.Lib.Pipeline.ValueKit.Tiles
public import Idealize.ShloMosaic.Lib.Pipeline.ValueKit.Acc

@[expose] public section

set_option maxRecDepth 4096

noncomputable section

namespace Cert.KernelIdeal.Val

open Cert.KernelIdeal Cert.KernelIdeal.Gen Cert.KernelIdeal.Hand Cert.Weight
open Idealize.ShloMosaic Idealize.ShloMosaic.TcCoe Idealize.ShloMosaic.ValueIdx
open Idealize.SL.Sem

section
variable {F : FTy → Type} [FloatOps F]
variable (m : (ℓ : Loc nD τ sig) → Buf (Elt F) ℓ)

/-! ## The arrays the kernel reads, at coordinates of the arguments -/

/-- The codes' array: book, group, column. -/
theorem v0_apply (c : Dev nD) (b : Fin 2) (g : Fin 1792) (j : Fin 4096) :
    (V m c main_v0 : Vec F S2x1792x4096 .i8) (ix3 b g j) = (m ((c : Thread nD τ).loc main_arg1) : Vec F S4096x1792x2 .i8) (ix3 j g b) := by
  rw [V_main_v0]
  exact transpose_apply _ _ _ _ (ix3 j g b) fun a => match a with | ⟨0, _⟩ => rfl | ⟨1, _⟩ => rfl | ⟨2, _⟩ => rfl

/-- The inputs' array: batch `M / 768`, row `M % 768`. -/
theorem v6_apply (c : Dev nD) (M : Fin 6912) (K : Fin 14336) (a : Fin 9) (b : Fin 768) (h : M.val = 768 * a.val + b.val) :
    (V m c main_v6 : Vec F S6912x14336 .bf16) (ix2 M K) = (m ((c : Thread nD τ).loc main_arg0) : Vec F S9x768x14336 .bf16) (ix3 a b K) := by
  rw [V_main_v6]
  refine shapeCast_apply _ _ _ (ix3 a b K) ?_
  rw [Shape.rowMajor_val_three, Shape.rowMajor_val_two]
  show (a.val * 768 + b.val) * 14336 + K.val = M.val * 14336 + K.val
  omega

/-- The scales' array. -/
theorem v7_apply (c : Dev nD) (J : Fin 4096) :
    (V m c main_v7 : Vec F S1x4096 .f32) (ix2 (0 : Fin 1) J) = (m ((c : Thread nD τ).loc main_arg3) : Vec F S4096 .f32) (ix1 J) := by
  rw [V_main_v7]
  refine shapeCast_apply _ _ _ (ix1 J) ?_
  rw [Shape.rowMajor_val_one, Shape.rowMajor_val_two]
  show J.val = 0 * 4096 + J.val
  omega

/-- Byte `q` of the tables' word at row `4 b + 2 h + u`, lane `l`: entry `128 u + l` of book `b`, element `4 (q / 2) + 2 h + q % 2`. -/
theorem v5_byte (c : Dev nD) (b h u : Fin 2) (l : Fin 128) (q : Fin 4) :
    ((V m c main_v5 : Vec F S8x128 .i32) (ix2 ⟨4 * b.val + 2 * h.val + u.val, by omega⟩ l)).extractLsb' (8 * q.val) 8
      = (m ((c : Thread nD τ).loc main_arg2) : Vec F S2x256x8 .i8)
          (ix3 b ⟨128 * u.val + l.val, by omega⟩ ⟨4 * (q.val / 2) + 2 * h.val + q.val % 2, by omega⟩) := by
  rw [V_main_v5]
  rw [shapeCast_apply _ _ _ (ix3 b h ⟨128 * u.val + l.val, by omega⟩ : S2x2x256.Idx) (by
    rw [Shape.rowMajor_val_three, Shape.rowMajor_val_two]
    show (b.val * 2 + h.val) * 256 + (128 * u.val + l.val) = (4 * b.val + 2 * h.val + u.val) * 128 + l.val
    omega)]
  apply BitVec.eq_of_getLsbD_eq
  intro p hp
  rw [BitVec.getLsbD_extractLsb', Host.bitcastConvertWiden_getLsbD _ _ _ _ _ _ (by omega)]
  rw [show (8 * q.val + p) % 8 = p by omega]
  simp only [hp, decide_true, Bool.true_and]
  refine congrArg (fun w : BitVec 8 => w.getLsbD p) ?_
  refine (shapeCast_apply _ _ _ (ix5 b h ⟨128 * u.val + l.val, by omega⟩ ⟨q.val / 2, by omega⟩ ⟨q.val % 2, by omega⟩ : S2x2x256x2x2.Idx) ?_).trans ?_
  · rw [Shape.rowMajor_val_four, Shape.rowMajor_val_five]
    show (((b.val * 2 + h.val) * 256 + (128 * u.val + l.val)) * 2 + q.val / 2) * 2 + q.val % 2
      = ((b.val * 2 + h.val) * 256 + (128 * u.val + l.val)) * 4 + (8 * q.val + p) / 8
    omega
  refine (transpose_apply _ _ _ _ (ix5 b ⟨128 * u.val + l.val, by omega⟩ ⟨q.val / 2, by omega⟩ h ⟨q.val % 2, by omega⟩ : S2x256x2x2x2.Idx) ?_).trans ?_
  · exact fun a => match a with | ⟨0, _⟩ => rfl | ⟨1, _⟩ => rfl | ⟨2, _⟩ => rfl | ⟨3, _⟩ => rfl | ⟨4, _⟩ => rfl
  refine shapeCast_apply _ _ _ _ ?_
  refine (Shape.rowMajor_val_three (d := ![2, 256, 8]) _).trans (Eq.trans ?_ (Shape.rowMajor_val_five _).symm)
  show (b.val * 256 + (128 * u.val + l.val)) * 8 + (4 * (q.val / 2) + 2 * h.val + q.val % 2)
    = (((b.val * 256 + (128 * u.val + l.val)) * 2 + q.val / 2) * 2 + h.val) * 2 + q.val % 2
  omega

/-- Row `r` of the tables, as the body loads it. -/
theorem table_row (c : Dev nD) (t : Fin cfg0.N) (r : Fin 8) (inb) (l : Fin 128) :
    View.ld (iblk m c 1 t : Vec F S8x128 .i32) (Rect.unit (s := S8x128) ![r.val, 0] S1x128.size inb) (ix2 (0 : Fin 1) l)
      = (V m c main_v5 : Vec F S8x128 .i32) (ix2 r l) := by
  refine (View.ld_unit_apply_of _ _ _ _ _ (ix2 r l) fun a => ?_).trans (iblk1_apply m c t r l)
  match a with
  | ⟨0, _⟩ => rfl
  | ⟨1, _⟩ => exact (Nat.zero_add _).symm

/-- The word a code selects in the rows of book `b` and half `h`: the row of the code's upper bit, at the code's place in it. -/
theorem word_half (T : Fin 8 → S1x128.Idx → BitVec 32) (V : S8x128.Idx → BitVec 32) (hT : ∀ r l, T r (ix2 0 l) = V (ix2 r l))
    (b h : Fin 2) (v : BitVec 8) :
    word (half h.val (T ⟨4 * b.val, by omega⟩) (T ⟨4 * b.val + 2, by omega⟩)) (half h.val (T ⟨4 * b.val + 1, by omega⟩) (T ⟨4 * b.val + 3, by omega⟩)) v
      = V (ix2 ⟨4 * b.val + 2 * h.val + v.toNat / 128, by have := v.isLt; omega⟩ ⟨v.toNat % 128, Nat.mod_lt _ (by decide)⟩) := by
  have hv := v.isLt
  unfold word half
  by_cases h8 : 128 ≤ v.toNat
  · have e : v.toNat / 128 = 1 := by omega
    rw [if_pos h8]
    match h with
    | ⟨0, _⟩ => rw [if_pos rfl, hT]; congr 2; apply Fin.ext; show 4 * b.val + 1 = 4 * b.val + 2 * 0 + v.toNat / 128; omega
    | ⟨1, _⟩ => rw [if_neg Nat.one_ne_zero, hT]; congr 2; apply Fin.ext; show 4 * b.val + 3 = 4 * b.val + 2 * 1 + v.toNat / 128; omega
  · have e : v.toNat / 128 = 0 := by omega
    rw [if_neg h8]
    match h with
    | ⟨0, _⟩ => rw [if_pos rfl, hT]; congr 2; apply Fin.ext; show 4 * b.val = 4 * b.val + 2 * 0 + v.toNat / 128; omega
    | ⟨1, _⟩ => rw [if_neg Nat.one_ne_zero, hT]; congr 2; apply Fin.ext; show 4 * b.val + 2 = 4 * b.val + 2 * 1 + v.toNat / 128; omega

/-- The eight table rows as the body loads them at a point. -/
def rows (c : Dev nD) (t : Fin cfg0.N) : Fin 8 → S1x128.Idx → BitVec 32 :=
  ![View.ld (iblk m c 1 t : Vec F S8x128 .i32) (Rect.unit (s := S8x128) ![0, 0] S1x128.size inb_S8x128_S1x128_0_0),
    View.ld (iblk m c 1 t : Vec F S8x128 .i32) (Rect.unit (s := S8x128) ![1, 0] S1x128.size inb_S8x128_S1x128_1_0),
    View.ld (iblk m c 1 t : Vec F S8x128 .i32) (Rect.unit (s := S8x128) ![2, 0] S1x128.size inb_S8x128_S1x128_2_0),
    View.ld (iblk m c 1 t : Vec F S8x128 .i32) (Rect.unit (s := S8x128) ![3, 0] S1x128.size inb_S8x128_S1x128_3_0),
    View.ld (iblk m c 1 t : Vec F S8x128 .i32) (Rect.unit (s := S8x128) ![4, 0] S1x128.size inb_S8x128_S1x128_4_0),
    View.ld (iblk m c 1 t : Vec F S8x128 .i32) (Rect.unit (s := S8x128) ![5, 0] S1x128.size inb_S8x128_S1x128_5_0),
    View.ld (iblk m c 1 t : Vec F S8x128 .i32) (Rect.unit (s := S8x128) ![6, 0] S1x128.size inb_S8x128_S1x128_6_0),
    View.ld (iblk m c 1 t : Vec F S8x128 .i32) (Rect.unit (s := S8x128) ![7, 0] S1x128.size inb_S8x128_S1x128_7_0)]

theorem rows_apply (c : Dev nD) (t : Fin cfg0.N) (r : Fin 8) (l : Fin 128) :
    rows m c t r (ix2 (0 : Fin 1) l) = (V m c main_v5 : Vec F S8x128 .i32) (ix2 r l) :=
  match r with
  | ⟨0, _⟩ => table_row m c t 0 _ l
  | ⟨1, _⟩ => table_row m c t 1 _ l
  | ⟨2, _⟩ => table_row m c t 2 _ l
  | ⟨3, _⟩ => table_row m c t 3 _ l
  | ⟨4, _⟩ => table_row m c t 4 _ l
  | ⟨5, _⟩ => table_row m c t 5 _ l
  | ⟨6, _⟩ => table_row m c t 6 _ l
  | ⟨7, _⟩ => table_row m c t 7 _ l

theorem Wt_eq (c : Dev nD) (t : Fin cfg0.N) : Wt m c t = scratch (rows m c t) (iblk m c 0 t : Vec F S2x1792x512 .i8) := rfl

end

/-! ## At exact real numbers -/

variable (m : (ℓ : Loc nD τ sig) → Buf (Elt Ideal) ℓ)

/-- The codes, the codebooks' bytes, the inputs and the scales. -/
abbrev A0 (c : Dev nD) : Vec Ideal S9x768x14336 .bf16 := m ((c : Thread nD τ).loc main_arg0)
abbrev A1 (c : Dev nD) : Vec Ideal S4096x1792x2 .i8 := m ((c : Thread nD τ).loc main_arg1)
abbrev A2 (c : Dev nD) : Vec Ideal S2x256x8 .i8 := m ((c : Thread nD τ).loc main_arg2)
abbrev A3 (c : Dev nD) : Vec Ideal S4096 .f32 := m ((c : Thread nD τ).loc main_arg3)

/-- One book's decoded byte is its entry in the weight. -/
theorem book_apply (c : Dev nD) (t : Fin cfg0.N) (b : Fin 2) (J : Fin 4096) (K : Fin 14336) (h : Fin 2) (q : Fin 4)
    (hh : h.val = K.val / 2 % 2) (hq : q.val = 2 * (K.val / 4 % 2) + K.val % 2) (v : BitVec 8)
    (hv : v = A1 m c (ix3 J ⟨K.val / 8, by omega⟩ b)) :
    (decByte (F := Ideal) q.val (word (half h.val (rows m c t ⟨4 * b.val, by omega⟩) (rows m c t ⟨4 * b.val + 2, by omega⟩))
      (half h.val (rows m c t ⟨4 * b.val + 1, by omega⟩) (rows m c t ⟨4 * b.val + 3, by omega⟩)) v) : EReal)
      = entry (A1 m c) (A2 m c) b J K := by
  have hvl := v.isLt
  rw [word_half (rows m c t) (V m c main_v5 : Vec Ideal S8x128 .i32) (rows_apply m c t) b h v]
  have hb := v5_byte m c b h ⟨v.toNat / 128, by omega⟩ ⟨v.toNat % 128, Nat.mod_lt _ (by decide)⟩ q
  unfold decByte entry fp8
  show (FloatOps.ofBits .fp8e4m3 _ : Ideal .fp8e4m3) = FloatOps.ofBits .fp8e4m3 _
  refine congrArg _ (hb.trans ?_)
  refine congrArg (A2 m c) ?_
  congr 1
  · apply Fin.ext; show 128 * (v.toNat / 128) + v.toNat % 128 = (A1 m c (ix3 J ⟨K.val / 8, _⟩ b)).toNat; rw [← hv]; omega
  · apply Fin.ext; show 4 * (q.val / 2) + 2 * h.val + q.val % 2 = K.val % 8; omega

/-- The decoded panel holds the decoded weights: pair row `R`, parity `p` is row `2 R + p`; tile `z`, lane `l` is the panel's column. -/
theorem Wt_apply (c : Dev nD) (t : Fin cfg0.N) (z : Fin 4) (R : Fin 7168) (p : Fin 2) (l : Fin 128) (J : Fin 4096) (K : Fin 14336)
    (hJ : J.val = 512 * (t.val / 27) + 128 * z.val + l.val) (hK : K.val = 2 * R.val + p.val) :
    (Wt m c t (ix4 z R p l) : EReal) = weight (A1 m c) (A2 m c) J K := by
  rw [Wt_eq]
  unfold scratch weight
  have code : ∀ b : Fin 2, ∀ (g : Fin 1792) (j : Fin 512), g.val = R.val / 4 → j.val = 128 * z.val + l.val →
      (iblk m c 0 t : Vec Ideal S2x1792x512 .i8) (ix3 b g j) = A1 m c (ix3 J ⟨K.val / 8, by omega⟩ b) := by
    intro b g j hg hj
    rw [iblk0_apply, v0_apply]
    refine congrArg (A1 m c) ?_
    congr 1
    · apply Fin.ext; show 512 * (t.val / 27) + j.val = J.val; omega
    · apply Fin.ext; show g.val = K.val / 8; omega
  refine congrArg₂ (fun u v : EReal => u + v) ?_ ?_
  · exact book_apply m c t 0 J K ⟨R.val % 2, Nat.mod_lt _ (by decide)⟩ ⟨2 * (R.val / 2 % 2) + p.val, by omega⟩
      (by show R.val % 2 = _; omega) (by show 2 * (R.val / 2 % 2) + p.val = _; omega) _ (code 0 _ _ rfl rfl)
  · exact book_apply m c t 1 J K ⟨R.val % 2, Nat.mod_lt _ (by decide)⟩ ⟨2 * (R.val / 2 % 2) + p.val, by omega⟩
      (by show R.val % 2 = _; omega) (by show 2 * (R.val / 2 % 2) + p.val = _; omega) _ (code 1 _ _ rfl rfl)

/-- The result's array before its reshape. -/
theorem G_apply (c : Dev nD) (M : Fin 6912) (J : Fin 4096) (a : Fin 9) (b : Fin 768) (hM : M.val = 768 * a.val + b.val) :
    (G m c (ix2 M J) : EReal) = value (A0 m c) (A1 m c) (A2 m c) (A3 m c) (ix3 a b J) := by
  have ht : (pt M J).val = 27 * (J.val / 512) + M.val / 256 := rfl
  unfold G value
  show outBlock (iblk m c 2 (pt M J)) (Wt m c (pt M J)) (iblk m c 3 (pt M J)) (ix2 ⟨M.val % 256, _⟩ ⟨J.val % 512, _⟩) = _
  rw [outBlock_apply]
  refine congrArg₂ (fun u v : EReal => u * v) ?_ ?_
  · refine Fin.sum_mul_add_congr (fun k e hl => ?_) (by decide)
    refine congrArg₂ (fun u v : EReal => u * v) ?_ ?_
    · rw [iblk2_apply]
      refine (v6_apply m c _ _ a b ?_).trans ?_
      · show 256 * ((pt M J).val % 27) + M.val % 256 = _
        omega
      · refine congrArg (A0 m c) ?_
        congr 1
        apply Fin.ext; show 256 * k.val + e.val = k.val * 256 + e.val; omega
    · refine Wt_apply m c (pt M J) _ _ _ _ J _ ?_ ?_
      · show J.val = 512 * ((pt M J).val / 27) + 128 * (J.val % 512 / 128) + J.val % 512 % 128
        omega
      · show k.val * 256 + e.val = 2 * (128 * k.val + e.val / 2) + e.val % 2
        omega
  · rw [iblk3_apply, v7_apply]
    refine congrArg (A3 m c) ?_
    congr 1
    apply Fin.ext
    show 512 * ((pt M J).val / 27) + J.val % 512 = J.val
    omega

/-- The reshaped result is the scaled product of the inputs with the decoded weights. -/
theorem result_eq (c : Dev nD) :
    shapeCast S9x768x4096 (G m c) shapeCasts_S6912x4096_S9x768x4096 = value (A0 m c) (A1 m c) (A2 m c) (A3 m c) := by
  funext i
  obtain ⟨a, b, J, rfl⟩ : ∃ (a : Fin 9) (b : Fin 768) (J : Fin 4096), i = ix3 a b J := ⟨i 0, i 1, i 2, eq_ix3 i⟩
  refine (shapeCast_apply _ _ _ (ix2 ⟨768 * a.val + b.val, by omega⟩ J : S6912x4096.Idx) ?_).trans (G_apply m c _ J a b rfl)
  rw [Shape.rowMajor_val_three, Shape.rowMajor_val_two]
  show (768 * a.val + b.val) * 4096 + J.val = (a.val * 768 + b.val) * 4096 + J.val
  omega

/-- Every execution ends with the result at the scaled product of the inputs with the decoded weights, and the arguments unchanged. -/
theorem value_run (ρ : Dev nD → PrngReg) : θ_run defs (onTc (τ := τ) (main (F := Ideal))) ⟨m, fun _ => 0, ρ⟩ fun r => ∀ c : Dev nD,
      r.2.mem ((c.tc : Thread nD τ).loc main_v9) = value (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩) (run m ρ)

end Cert.KernelIdeal.Val

end
-- ==== Proof.ReferenceValue.lean ====
/-
  What `ReferenceIdeal` computes, at exact real numbers: the decoded codebooks, the gather at a code, and the result as the scaled product
  of the inputs with the decoded weights (`result_eq`).
-/
module

public import proofs.«01_k».proof.Proof.Gen.ReferenceIdeal.Run
public import proofs.«01_k».proof.Proof.Gen.ReferenceIdeal.Read
public import proofs.«01_k».proof.Proof.Weight
public import Idealize.ShloMosaic.Lib.Pipeline.Value
public import Idealize.ShloMosaic.Lib.Pipeline.ValueKit.Geometry
public import Idealize.ShloMosaic.Lib.Pipeline.ValueKit.Acc

@[expose] public section

set_option maxRecDepth 4096

noncomputable section

namespace Cert.ReferenceIdeal.Val

open Cert.ReferenceIdeal Cert.ReferenceIdeal.Gen Cert.ReferenceIdeal.Value Cert.ReferenceIdeal.Read Cert.Weight
open Idealize.ShloMosaic Idealize.ShloMosaic.TcCoe Idealize.ShloMosaic.ValueIdx
open Idealize.SL.Sem

/-- A table of vectors gathered at pairs (book, code): the vector of the pair, when the pair is in range. -/
theorem gather_apply {α : Type} (x : S2x256x8.Idx → α) (idx : IVec S4096x1792x2x2 32) (J : Fin 4096) (g : Fin 1792) (b : Fin 2) (e : Fin 8)
    (n : Fin 256) (h0 : (idx (ix4 J g b 0)).toInt.toNat = b.val) (h1 : (idx (ix4 J g b 1)).toInt.toNat = n.val) :
    Host.gather gather_S2x256x8_S4096x1792x2x2_S4096x1792x2x8_3_01_n_n_01_3_118 x idx (ix4 J g b e) = x (ix3 b n e) := by
  unfold Host.gather
  refine congrArg x ?_
  have e0 : GatherDims.start gather_S2x256x8_S4096x1792x2x2_S4096x1792x2x8_3_01_n_n_01_3_118 (ix4 J g b e) idx (0 : Fin 3) = b.val := by
    have hs : GatherDims.siIdx gather_S2x256x8_S4096x1792x2x2_S4096x1792x2x8_3_01_n_n_01_3_118 (ix4 J g b e)
        ⟨List.idxOf (0 : Fin 3) [0, 1], by decide⟩ = (ix4 J g b 0 : S4096x1792x2x2.Idx) := by
      funext q; refine Fin.ext ?_
      match q with
      | ⟨0, _⟩ => rfl
      | ⟨1, _⟩ => rfl
      | ⟨2, _⟩ => rfl
      | ⟨3, _⟩ => rfl
    refine (dif_pos (show (0 : Fin 3) ∈ ([0, 1] : List (Fin 3)) by decide)).trans ?_
    refine (congrArg (fun z => min (BitVec.toInt (idx z)).toNat 1) hs).trans ?_
    show min (idx (ix4 J g b 0)).toInt.toNat 1 = b.val
    rw [h0]; omega
  have e1 : GatherDims.start gather_S2x256x8_S4096x1792x2x2_S4096x1792x2x8_3_01_n_n_01_3_118 (ix4 J g b e) idx (1 : Fin 3) = n.val := by
    have hs : GatherDims.siIdx gather_S2x256x8_S4096x1792x2x2_S4096x1792x2x8_3_01_n_n_01_3_118 (ix4 J g b e)
        ⟨List.idxOf (1 : Fin 3) [0, 1], by decide⟩ = (ix4 J g b 1 : S4096x1792x2x2.Idx) := by
      funext q; refine Fin.ext ?_
      match q with
      | ⟨0, _⟩ => rfl
      | ⟨1, _⟩ => rfl
      | ⟨2, _⟩ => rfl
      | ⟨3, _⟩ => rfl
    refine (dif_pos (show (1 : Fin 3) ∈ ([0, 1] : List (Fin 3)) by decide)).trans ?_
    refine (congrArg (fun z => min (BitVec.toInt (idx z)).toNat 255) hs).trans ?_
    show min (idx (ix4 J g b 1)).toInt.toNat 255 = n.val
    rw [h1]; omega
  have o0 : GatherDims.offCoord gather_S2x256x8_S4096x1792x2x2_S4096x1792x2x8_3_01_n_n_01_3_118 (ix4 J g b e) (0 : Fin 3) = 0 :=
    GatherDims.offCoord_eq_zero _ _ _ (fun h => ((GatherDims.mem_sKept _ _).mp h).1 (show (0 : Fin 3) ∈ ([0, 1] : List (Fin 3)) by decide))
  have o1 : GatherDims.offCoord gather_S2x256x8_S4096x1792x2x2_S4096x1792x2x8_3_01_n_n_01_3_118 (ix4 J g b e) (1 : Fin 3) = 0 :=
    GatherDims.offCoord_eq_zero _ _ _ (fun h => ((GatherDims.mem_sKept _ _).mp h).1 (show (1 : Fin 3) ∈ ([0, 1] : List (Fin 3)) by decide))
  have e2 : GatherDims.start gather_S2x256x8_S4096x1792x2x2_S4096x1792x2x8_3_01_n_n_01_3_118 (ix4 J g b e) idx (2 : Fin 3) = 0 :=
    dif_neg (show ¬ (2 : Fin 3) ∈ ([0, 1] : List (Fin 3)) by decide)
  have o2 : GatherDims.offCoord gather_S2x256x8_S4096x1792x2x2_S4096x1792x2x8_3_01_n_n_01_3_118 (ix4 J g b e) (2 : Fin 3) = e.val := rfl
  have bc : ∀ a : Fin 3, GatherDims.batchCoord gather_S2x256x8_S4096x1792x2x2_S4096x1792x2x8_3_01_n_n_01_3_118 (ix4 J g b e) a = 0 :=
    fun a => GatherDims.batchCoord_eq_zero _ _ _ List.not_mem_nil
  funext a
  refine Fin.ext ?_
  match a with
  | ⟨0, _⟩ => exact (congrArg₂ (· + ·) (congrArg₂ (· + ·) e0 (bc 0)) o0 : _ = b.val + 0 + 0)
  | ⟨1, _⟩ => exact (congrArg₂ (· + ·) (congrArg₂ (· + ·) e1 (bc 1)) o1 : _ = n.val + 0 + 0)
  | ⟨2, _⟩ => exact (congrArg₂ (· + ·) (congrArg₂ (· + ·) e2 (bc 2)) o2 : _ = 0 + 0 + e.val).trans (by rw [Nat.zero_add])

variable (m : (ℓ : Loc nD τ sig) → Buf (Elt Ideal) ℓ)

/-- The inputs, the codes, the codebooks' bytes and the scales. -/
abbrev A0 (c : Dev nD) : Vec Ideal S9x768x14336 .bf16 := m ((c : Thread nD τ).loc main_arg0)
abbrev A1 (c : Dev nD) : Vec Ideal S4096x1792x2 .i8 := m ((c : Thread nD τ).loc main_arg1)
abbrev A2 (c : Dev nD) : Vec Ideal S2x256x8 .i8 := m ((c : Thread nD τ).loc main_arg2)
abbrev A3 (c : Dev nD) : Vec Ideal S4096 .f32 := m ((c : Thread nD τ).loc main_arg3)

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)

/-- The block of the decoded codebooks is all of them, and so is the block of the codebooks. -/
theorem emb0 (t : Fin cfg0.N) (y : S2x256x8.Idx) : ((cfg0.win 0).blk t).view.emb y = y := by
  funext a
  apply Fin.ext
  match a with
  | ⟨0, _⟩ => blk_simp [index0]
  | ⟨1, _⟩ => blk_simp [index0]
  | ⟨2, _⟩ => blk_simp [index0]
theorem emb1 (t : Fin cfg0.N) (y : S2x256x8.Idx) : ((cfg0.win 1).blk t).view.emb y = y := by
  funext a
  apply Fin.ext
  match a with
  | ⟨0, _⟩ => blk_simp [index1]
  | ⟨1, _⟩ => blk_simp [index1]
  | ⟨2, _⟩ => blk_simp [index1]

/-- The decoded codebooks: each byte's number. -/
theorem reg_eq (c : Dev nD) : (reg_main_v0 m c : Vec Ideal S2x256x8 .f32) = fun i => fp8 (A2 m c i) := by
  unfold reg_main_v0
  refine (Gen.dats m 0 c).arrAt_eq_of_covers 1 _ (by decide +kernel) fun t hf y => ?_
  blk_simp
  rw [after0_1]
  frame_out
  show fp8 (iblk m c 0 t y) = fp8 (A2 m c (((cfg0.win 1).blk t).view.emb y))
  rw [emb1]
  refine congrArg fp8 ?_
  unfold iblk
  show V m c main_arg2 (((cfg0.win 0).blk t).view.emb y) = _
  rw [emb0, V_main_arg2]

/-- The pair's first component, the book. -/
theorem v17_book (x1 : Vec Ideal S4096x1792x2 .i8) (J : Fin 4096) (g : Fin 1792) (b : Fin 2) :
    (val_main_v17 (F := Ideal) x1 (ix4 J g b 0)).toInt.toNat = b.val := by
  have h : val_main_v17 (F := Ideal) x1 (ix4 J g b 0) = val_main_v15 (F := Ideal) (ix4 J g b 0) :=
    concatenate_pair_apply_left (t := S4096x1792x2x2) (s₁ := S4096x1792x2x1) (s₂ := S4096x1792x2x1) 3 _ _ _ _ rfl _
      fun a => match a with | ⟨0, _⟩ => rfl | ⟨1, _⟩ => rfl | ⟨2, _⟩ => rfl | ⟨3, _⟩ => rfl
  rw [h, val_main_v15_apply, val_main_v14_apply, val_main_v8_apply, val_main_v7_apply, val_main_v5_apply, val_main_v3_apply,
    val_main_v4_apply, val_main_v6_apply, val_main_v2_apply, val_main_c_apply, val_main_c_0_apply]
  show (Scalar.select (IntOp.cmpi .slt (BitVec.ofNat 32 b.val) 0#32) (IntOp.addi (BitVec.ofNat 32 b.val) 2#32) (BitVec.ofNat 32 b.val)).toInt.toNat = b.val
  clear h; revert b; decide +kernel

/-- A code is not negative, so it is taken as it is. -/
theorem code_nat : ∀ v : BitVec 8, (Scalar.select (IntOp.cmpi .slt (v.setWidth 32) 0#32) (IntOp.addi (v.setWidth 32) 256#32) (v.setWidth 32)).toInt.toNat
    = v.toNat := by decide +kernel

/-- The pair's second component, the code. -/
theorem v17_code (x1 : Vec Ideal S4096x1792x2 .i8) (J : Fin 4096) (g : Fin 1792) (b : Fin 2) :
    (val_main_v17 (F := Ideal) x1 (ix4 J g b 1)).toInt.toNat = (x1 (ix3 J g b)).toNat := by
  have h : val_main_v17 (F := Ideal) x1 (ix4 J g b 1) = val_main_v16 (F := Ideal) x1 (ix4 J g b 0) :=
    concatenate_pair_apply_right (t := S4096x1792x2x2) (s₁ := S4096x1792x2x1) (s₂ := S4096x1792x2x1) 3 _ _ _ _ rfl rfl _
      (fun a => match a with | ⟨0, _⟩ => fun _ => rfl | ⟨1, _⟩ => fun _ => rfl | ⟨2, _⟩ => fun _ => rfl | ⟨3, _⟩ => fun h => absurd rfl h) rfl
  have hi : idx_main_v16 (ix4 J g b 0) = ix3 J g b := by
    funext a
    match a with | ⟨0, _⟩ => rfl | ⟨1, _⟩ => rfl | ⟨2, _⟩ => rfl
  rw [h, val_main_v16_apply, hi, val_main_v13_apply, val_main_v12_apply, val_main_v10_apply, val_main_v9_apply, val_main_v11_apply,
    val_main_v1_apply, val_main_c_1_apply, val_main_c_2_apply]
  exact code_nat _

/-- A gathered element is the book's entry in the weight. -/
theorem v18_apply (c : Dev nD) (J : Fin 4096) (K : Fin 14336) (b : Fin 2) :
    (val_main_v18 (F := Ideal) (A1 m c) (fun i => fp8 (A2 m c i)) (ix4 J ⟨K.val / 8, by omega⟩ b ⟨K.val % 8, Nat.mod_lt _ (by decide)⟩) : EReal)
      = entry (A1 m c) (A2 m c) b J K :=
  gather_apply (fun i => fp8 (A2 m c i)) _ J _ b _ ⟨(A1 m c (ix3 J ⟨K.val / 8, by omega⟩ b)).toNat, (A1 m c (ix3 J ⟨K.val / 8, by omega⟩ b)).isLt⟩
    (v17_book _ J _ b) (v17_code _ J _ b)

/-- The reference's weight matrix is the decoded weight. -/
theorem v21_apply (c : Dev nD) (J : Fin 4096) (K : Fin 14336) :
    (val_main_v21 (F := Ideal) (A1 m c) (fun i => fp8 (A2 m c i)) (ix2 J K) : EReal) = weight (A1 m c) (A2 m c) J K := by
  have hi : idx_main_v21 (ix2 J K) = ix3 J ⟨K.val / 8, by omega⟩ ⟨K.val % 8, Nat.mod_lt _ (by decide)⟩ := by
    funext a
    apply Fin.ext
    match a with
    | ⟨0, _⟩ => show (J.val * 14336 + K.val) / 14336 = J.val; omega
    | ⟨1, _⟩ => show (J.val * 14336 + K.val) / 8 % 1792 = K.val / 8; omega
    | ⟨2, _⟩ => show (J.val * 14336 + K.val) % 8 = K.val % 8; omega
  have hk : ∀ k : Fin 2, idx_main_v19 (ix3 J ⟨K.val / 8, by omega⟩ ⟨K.val % 8, Nat.mod_lt _ (by decide)⟩) k
      = ix4 J ⟨K.val / 8, by omega⟩ k ⟨K.val % 8, Nat.mod_lt _ (by decide)⟩ := by
    intro k
    funext a
    match a with | ⟨0, _⟩ => rfl | ⟨1, _⟩ => rfl | ⟨2, _⟩ => rfl | ⟨3, _⟩ => rfl
  rw [val_main_v21_apply, hi, val_main_v20_apply]
  show (val_main_v19 (F := Ideal) (A1 m c) (fun i => fp8 (A2 m c i)) _ : EReal) = _
  rw [val_main_v19_apply, Fin.sum_univ_two, hk, hk, v18_apply, v18_apply, val_main_cst_apply]
  unfold weight
  rw [show (FloatOps.ofBits .f32 0x00000000#32 : Ideal .f32) = (0 : EReal) from Ideal.ofBits_zero_f32, zero_add]

/-- The result is the scaled product of the inputs with the decoded weights. -/
theorem result_eq (c : Dev nD) :
    val_main_v26 (F := Ideal) (A0 m c) (A1 m c) (A3 m c) (reg_main_v0 m c) = value (A0 m c) (A1 m c) (A2 m c) (A3 m c) := by
  rw [reg_eq]
  funext i
  obtain ⟨a, b, J, rfl⟩ : ∃ (a : Fin 9) (b : Fin 768) (J : Fin 4096), i = ix3 a b J := ⟨i 0, i 1, i 2, eq_ix3 i⟩
  rw [val_main_v26_apply]
  show (val_main_v25 (F := Ideal) _ _ _ _ _ : EReal) = _
  rw [val_main_v25_apply, val_main_v24_apply, val_main_v23_apply, val_main_v22_apply]
  unfold value
  refine congrArg₂ (fun u v : EReal => u * v) (Finset.sum_congr rfl fun K _ => congrArg₂ (fun u v : EReal => u * v) ?_ ?_) ?_
  · refine congrArg (A0 m c) ?_
    funext q
    match q with | ⟨0, _⟩ => rfl | ⟨1, _⟩ => rfl | ⟨2, _⟩ => rfl
  · refine Eq.trans (congrArg _ ?_) (v21_apply m c J K)
    funext q
    match q with | ⟨0, _⟩ => rfl | ⟨1, _⟩ => rfl
  · refine congrArg (A3 m c) ?_
    funext q
    match q with | ⟨0, _⟩ => rfl

/-- Every execution ends with the result at the scaled product of the inputs with the decoded weights, and the arguments unchanged. -/
theorem value_run (ρ : Dev nD → PrngReg) : θ_run defs (onTc (τ := τ) (main (F := Ideal))) ⟨m, fun _ => 0, ρ⟩ fun r => ∀ c : Dev nD,
      r.2.mem ((c.tc : Thread nD τ).loc main_v26) = value (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩) (Cert.ReferenceIdeal.Value.run m ρ)

end Cert.ReferenceIdeal.Val

end
-- ==== Proof.lean ====
module

public import proofs.«01_k».proof.Defs
public import proofs.«01_k».proof.Proof.KernelFrame
public import proofs.«01_k».proof.Proof.KernelIdealValue
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.ReferenceValue
public import Idealize.ShloMosaic.Adequacy
public import Idealize.ShloMosaic.Init
public import Idealize.ShloMosaic.Lib.Bf16PairInverse

@[expose] public section

noncomputable section

namespace Cert.Proof

open Idealize.ShloMosaic

/-- The rewrites the idealized kernel was printed by hold bit for bit: a word of the scratch, and a word of
    two packed rows, is the pair of bf16 rows that stands for it. -/
theorem preserves : Cert.preserves_Kernel_KernelIdeal :=
  ⟨IdealRules.bf16_pair.bufferStatement _ _, IdealRules.bf16_pair.statement _ _,
    IdealRules.bf16_pair.statement _ _, IdealRules.bf16_pair.statement _ _, IdealRules.bf16_pair.statement _ _⟩

/-- From the same arguments the idealized kernel and the reference end with the same result at exact real numbers: both compute
    the inputs times the decoded weights, each column scaled. -/
theorem algebraic : Cert.algebraic_KernelIdeal_ReferenceIdeal := by
  intro m g m' g' _ h
  refine ⟨fun c => Cert.Weight.value (Cert.KernelIdeal.Val.A0 m c) (Cert.KernelIdeal.Val.A1 m c) (Cert.KernelIdeal.Val.A2 m c) (Cert.KernelIdeal.Val.A3 m c),
    Cert.KernelIdeal.Val.value_run m g,
    (θ_run _ _ _).mono (fun r hr c => ⟨(hr c).1.trans ?_, (hr c).2⟩) (Cert.ReferenceIdeal.Val.value_run m' g')⟩
  obtain ⟨h0, h1, h2, h3⟩ := h c
  unfold Cert.ReferenceIdeal.Val.A0 Cert.ReferenceIdeal.Val.A1 Cert.ReferenceIdeal.Val.A2 Cert.ReferenceIdeal.Val.A3
  rw [h0, h1, h2, h3]

/-- All the claims of the certificate. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Val.frame m ρ,
    fun m ρ _ => Cert.ReferenceIdeal.Gen.frame m ρ, preserves, algebraic⟩

end Cert.Proof

end
